-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S4096x2x3584 Cert.KernelIdeal.S4096x1x3584
  ∧ IdealRules.bf16_pair.BufferStatement Cert.KernelIdeal.S128x2x3584 Cert.KernelIdeal.S128x1x3584
  ∧ IdealRules.bf16_pair.Statement Cert.KernelIdeal.S32x256 Cert.KernelIdeal.S16x256
  ∧ IdealRules.bf16_pair.Statement Cert.KernelIdeal.S16x2x256 Cert.KernelIdeal.S16x1x256
  ∧ IdealRules.bf16_pair.BufferStatement Cert.KernelIdeal.S1024x2x3584 Cert.KernelIdeal.S1024x1x3584
  ∧ IdealRules.bf16_pair.BufferStatement Cert.KernelIdeal.S1x1792x2x512 Cert.KernelIdeal.S1x1792x1x512
  ∧ IdealRules.bf16_pair.BufferStatement Cert.KernelIdeal.S16x16x2x512 Cert.KernelIdeal.S16x16x1x512
  ∧ IdealRules.bf16_pair.PackStatement Cert.KernelIdeal.S14x512
  ∧ IdealRules.bf16_pair.Statement Cert.KernelIdeal.S1x14x2x512 Cert.KernelIdeal.S1x14x1x512
  ∧ IdealRules.bf16_pair.Statement Cert.KernelIdeal.S1x1x2x512 Cert.KernelIdeal.S1x1x1x512
  ∧ IdealRules.bf16_pair.Statement Cert.KernelIdeal.S16x512 Cert.KernelIdeal.S8x512
  ∧ IdealRules.bf16_pair.Statement Cert.KernelIdeal.S1x8x2x512 Cert.KernelIdeal.S1x8x1x512
  ∧ IdealRules.bf16_pair.Statement Cert.KernelIdeal.S1x1792x2x512 Cert.KernelIdeal.S1x1792x1x512
  ∧ IdealRules.bf16_pair.Statement Cert.KernelIdeal.S3584x512 Cert.KernelIdeal.S1792x512
  ∧ IdealRules.bf16_pair.Statement Cert.KernelIdeal.S256x2x3584 Cert.KernelIdeal.S256x1x3584
  ∧ IdealRules.bf16_pair.Statement Cert.KernelIdeal.S512x3584 Cert.KernelIdeal.S256x3584

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v28_0) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x3584 : Shape := ⟨3, ![2, 4096, 3584]⟩
abbrev S3584 : Shape := ⟨1, ![3584]⟩
abbrev S18944x14x32 : Shape := ⟨3, ![18944, 14, 32]⟩
abbrev S18944x14x64 : Shape := ⟨3, ![18944, 14, 64]⟩
abbrev S18944x14x12 : Shape := ⟨3, ![18944, 14, 12]⟩
abbrev S18944x14 : Shape := ⟨2, ![18944, 14]⟩
abbrev S8192x3584 : Shape := ⟨2, ![8192, 3584]⟩
abbrev S1x3584 : Shape := ⟨2, ![1, 3584]⟩
abbrev S14x8192 : Shape := ⟨2, ![14, 8192]⟩
abbrev S4096x3584 : Shape := ⟨2, ![4096, 3584]⟩
abbrev S256x3584 : Shape := ⟨2, ![256, 3584]⟩
abbrev S14x256 : Shape := ⟨2, ![14, 256]⟩
abbrev S128x3584 : Shape := ⟨2, ![128, 3584]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S32x256 : Shape := ⟨2, ![32, 256]⟩
abbrev S1x256 : Shape := ⟨2, ![1, 256]⟩
abbrev S16x256 : Shape := ⟨2, ![16, 256]⟩
abbrev S128x256 : Shape := ⟨2, ![128, 256]⟩
abbrev S14x64x18944 : Shape := ⟨3, ![14, 64, 18944]⟩
abbrev S14x32x18944 : Shape := ⟨3, ![14, 32, 18944]⟩
abbrev S12x14x18944 : Shape := ⟨3, ![12, 14, 18944]⟩
abbrev S14x18944 : Shape := ⟨2, ![14, 18944]⟩
abbrev S8192x18944 : Shape := ⟨2, ![8192, 18944]⟩
abbrev S1024x3584 : Shape := ⟨2, ![1024, 3584]⟩
abbrev S14x64x512 : Shape := ⟨3, ![14, 64, 512]⟩
abbrev S14x32x512 : Shape := ⟨3, ![14, 32, 512]⟩
abbrev S12x14x512 : Shape := ⟨3, ![12, 14, 512]⟩
abbrev S14x512 : Shape := ⟨2, ![14, 512]⟩
abbrev S2048x512 : Shape := ⟨2, ![2048, 512]⟩
abbrev S1x1792x512 : Shape := ⟨3, ![1, 1792, 512]⟩
abbrev S16x16x512 : Shape := ⟨3, ![16, 16, 512]⟩
abbrev S1x14x512 : Shape := ⟨3, ![1, 14, 512]⟩
abbrev S1x32x512 : Shape := ⟨3, ![1, 32, 512]⟩
abbrev S32x512 : Shape := ⟨2, ![32, 512]⟩
abbrev S8x512 : Shape := ⟨2, ![8, 512]⟩
abbrev S1x1x512 : Shape := ⟨3, ![1, 1, 512]⟩
abbrev S1x512 : Shape := ⟨2, ![1, 512]⟩
abbrev S16x512 : Shape := ⟨2, ![16, 512]⟩
abbrev S1x8x512 : Shape := ⟨3, ![1, 8, 512]⟩
abbrev S1792x512 : Shape := ⟨2, ![1792, 512]⟩
abbrev S3584x512 : Shape := ⟨2, ![3584, 512]⟩
abbrev S512x3584 : Shape := ⟨2, ![512, 3584]⟩
abbrev S512x512 : Shape := ⟨2, ![512, 512]⟩
abbrev S2x4096x18944 : Shape := ⟨3, ![2, 4096, 18944]⟩
abbrev S14x2x4096 : Shape := ⟨3, ![14, 2, 4096]⟩
abbrev S2x4096x14 : Shape := ⟨3, ![2, 4096, 14]⟩

abbrev nBuf : Space → Nat
  | .hbm => 20
  | .vmem => 24
  | .smem => 0
  | _ => 0

abbrev bufTy : (tb : Table) → Fin (tcTables nBuf tb) → BufTy
  | .hbm, ⟨0, _⟩ => ⟨S2x4096x3584, .bf16⟩
  | .hbm, ⟨1, _⟩ => ⟨S3584, .f32⟩
  | .hbm, ⟨2, _⟩ => ⟨S18944x14x32, .i8⟩
  | .hbm, ⟨3, _⟩ => ⟨S18944x14x64, .i8⟩
  | .hbm, ⟨4, _⟩ => ⟨S18944x14x12, .i8⟩
  | .hbm, ⟨5, _⟩ => ⟨S18944x14, .f16⟩
  | .hbm, ⟨6, _⟩ => ⟨S8192x3584, .bf16⟩
  | .hbm, ⟨7, _⟩ => ⟨S1x3584, .f32⟩
  | .hbm, ⟨8, _⟩ => ⟨S8192x3584, .i8⟩
  | .hbm, ⟨9, _⟩ => ⟨S14x8192, .f32⟩
  | .hbm, ⟨10, _⟩ => ⟨S4096x3584, .i32⟩
  | .hbm, ⟨11, _⟩ => ⟨S14x64x18944, .i8⟩
  | .hbm, ⟨12, _⟩ => ⟨S14x32x18944, .i8⟩
  | .hbm, ⟨13, _⟩ => ⟨S12x14x18944, .i8⟩
  | .hbm, ⟨14, _⟩ => ⟨S14x18944, .f16⟩
  | .hbm, ⟨15, _⟩ => ⟨S8192x18944, .bf16⟩
  | .hbm, ⟨16, _⟩ => ⟨S2x4096x18944, .bf16⟩
  | .hbm, ⟨17, _⟩ => ⟨S2x4096x3584, .i8⟩
  | .hbm, ⟨18, _⟩ => ⟨S14x2x4096, .f32⟩
  | .hbm, ⟨19, _⟩ => ⟨S2x4096x14, .f32⟩
  | .local _ .vmem, ⟨0, _⟩ => ⟨S256x3584, .bf16⟩
  | .local _ .vmem, ⟨1, _⟩ => ⟨S256x3584, .bf16⟩
  | .local _ .vmem, ⟨2, _⟩ => ⟨S1x3584, .f32⟩
  | .local _ .vmem, ⟨3, _⟩ => ⟨S256x3584, .i8⟩
  | .local _ .vmem, ⟨4, _⟩ => ⟨S256x3584, .i8⟩
  | .local _ .vmem, ⟨5, _⟩ => ⟨S14x256, .f32⟩
  | .local _ .vmem, ⟨6, _⟩ => ⟨S14x256, .f32⟩
  | .local _ .vmem, ⟨7, _⟩ => ⟨S128x3584, .i32⟩
  | .local _ .vmem, ⟨8, _⟩ => ⟨S128x3584, .i32⟩
  | .local _ .vmem, ⟨9, _⟩ => ⟨S256x128, .f32⟩
  | .local _ .vmem, ⟨10, _⟩ => ⟨S1024x3584, .i32⟩
  | .local _ .vmem, ⟨11, _⟩ => ⟨S1024x3584, .i32⟩
  | .local _ .vmem, ⟨12, _⟩ => ⟨S14x64x512, .i8⟩
  | .local _ .vmem, ⟨13, _⟩ => ⟨S14x64x512, .i8⟩
  | .local _ .vmem, ⟨14, _⟩ => ⟨S14x32x512, .i8⟩
  | .local _ .vmem, ⟨15, _⟩ => ⟨S14x32x512, .i8⟩
  | .local _ .vmem, ⟨16, _⟩ => ⟨S12x14x512, .i8⟩
  | .local _ .vmem, ⟨17, _⟩ => ⟨S12x14x512, .i8⟩
  | .local _ .vmem, ⟨18, _⟩ => ⟨S14x512, .f16⟩
  | .local _ .vmem, ⟨19, _⟩ => ⟨S14x512, .f16⟩
  | .local _ .vmem, ⟨20, _⟩ => ⟨S2048x512, .bf16⟩
  | .local _ .vmem, ⟨21, _⟩ => ⟨S2048x512, .bf16⟩
  | .local _ .vmem, ⟨22, _⟩ => ⟨S1x1792x512, .i32⟩
  | .local _ .vmem, ⟨23, _⟩ => ⟨S16x16x512, .i32⟩
  | _, _ => ⟨S2x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  v5
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v8 : Index := Scalar.indexCast v6
  let c0_4 : Index := 0#32
  ![v8.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v14 : Index := Scalar.indexCast v6
  let c128 : Index := 128#32
  ![v14.toNat, 128]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v20 : Index := Scalar.indexCast v6
  let c256 : Index := 256#32
  ![v20.toNat, 256]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v26 : Index := Scalar.indexCast v6
  let c384 : Index := 384#32
  ![v26.toNat, 384]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v32 : Index := Scalar.indexCast v6
  let c512 : Index := 512#32
  ![v32.toNat, 512]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v38 : Index := Scalar.indexCast v6
  let c640 : Index := 640#32
  ![v38.toNat, 640]
def k0_off7 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v44 : Index := Scalar.indexCast v6
  let c768 : Index := 768#32
  ![v44.toNat, 768]
def k0_off8 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v50 : Index := Scalar.indexCast v6
  let c896 : Index := 896#32
  ![v50.toNat, 896]
def k0_off9 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v56 : Index := Scalar.indexCast v6
  let c1024 : Index := 1024#32
  ![v56.toNat, 1024]
def k0_off10 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v62 : Index := Scalar.indexCast v6
  let c1152 : Index := 1152#32
  ![v62.toNat, 1152]
def k0_off11 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v68 : Index := Scalar.indexCast v6
  let c1280 : Index := 1280#32
  ![v68.toNat, 1280]
def k0_off12 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v74 : Index := Scalar.indexCast v6
  let c1408 : Index := 1408#32
  ![v74.toNat, 1408]
def k0_off13 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v80 : Index := Scalar.indexCast v6
  let c1536 : Index := 1536#32
  ![v80.toNat, 1536]
def k0_off14 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v86 : Index := Scalar.indexCast v6
  let c1664 : Index := 1664#32
  ![v86.toNat, 1664]
def k0_off15 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v92 : Index := Scalar.indexCast v6
  let c1792 : Index := 1792#32
  ![v92.toNat, 1792]
def k0_off16 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v98 : Index := Scalar.indexCast v6
  let c1920 : Index := 1920#32
  ![v98.toNat, 1920]
def k0_off17 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v104 : Index := Scalar.indexCast v6
  let c2048 : Index := 2048#32
  ![v104.toNat, 2048]
def k0_off18 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v110 : Index := Scalar.indexCast v6
  let c2176 : Index := 2176#32
  ![v110.toNat, 2176]
def k0_off19 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v116 : Index := Scalar.indexCast v6
  let c2304 : Index := 2304#32
  ![v116.toNat, 2304]
def k0_off20 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v122 : Index := Scalar.indexCast v6
  let c2432 : Index := 2432#32
  ![v122.toNat, 2432]
def k0_off21 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v128 : Index := Scalar.indexCast v6
  let c2560 : Index := 2560#32
  ![v128.toNat, 2560]
def k0_off22 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v134 : Index := Scalar.indexCast v6
  let c2688 : Index := 2688#32
  ![v134.toNat, 2688]
def k0_off23 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v140 : Index := Scalar.indexCast v6
  let c2816 : Index := 2816#32
  ![v140.toNat, 2816]
def k0_off24 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v146 : Index := Scalar.indexCast v6
  let c2944 : Index := 2944#32
  ![v146.toNat, 2944]
def k0_off25 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v152 : Index := Scalar.indexCast v6
  let c3072 : Index := 3072#32
  ![v152.toNat, 3072]
def k0_off26 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v158 : Index := Scalar.indexCast v6
  let c3200 : Index := 3200#32
  ![v158.toNat, 3200]
def k0_off27 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v164 : Index := Scalar.indexCast v6
  let c3328 : Index := 3328#32
  ![v164.toNat, 3328]
def k0_off28 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v170 : Index := Scalar.indexCast v6
  let c3456 : Index := 3456#32
  ![v170.toNat, 3456]
def k0_off29 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v185 : Index := Scalar.indexCast v6
  let c0_9 : Index := 0#32
  ![v185.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32 : BitVec 32 := 16#32
  let v219 : BitVec 32 := Scalar.muli arg7 c16_i32
  v219
def k0_off30 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32 : BitVec 32 := 16#32
  let v219 : BitVec 32 := Scalar.muli arg7 c16_i32
  let v220 : BitVec 32 := v219
  let v221 : Index := Scalar.indexCast v220
  let c0_19 : Index := 0#32
  ![v221.toNat, 0]
def k0_off31 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v228 : Index := Scalar.indexCast v6
  let c256_21 : Index := 256#32
  ![v228.toNat, 256]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_31 : BitVec 32 := 16#32
  let v262 : BitVec 32 := Scalar.muli arg7 c16_i32_31
  v262
def k0_off32 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_31 : BitVec 32 := 16#32
  let v262 : BitVec 32 := Scalar.muli arg7 c16_i32_31
  let v263 : BitVec 32 := v262
  let v264 : Index := Scalar.indexCast v263
  let c256_32 : Index := 256#32
  ![v264.toNat, 256]
def k0_off33 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v271 : Index := Scalar.indexCast v6
  let c512_34 : Index := 512#32
  ![v271.toNat, 512]
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_44 : BitVec 32 := 16#32
  let v305 : BitVec 32 := Scalar.muli arg7 c16_i32_44
  v305
def k0_off34 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_44 : BitVec 32 := 16#32
  let v305 : BitVec 32 := Scalar.muli arg7 c16_i32_44
  let v306 : BitVec 32 := v305
  let v307 : Index := Scalar.indexCast v306
  let c512_45 : Index := 512#32
  ![v307.toNat, 512]
def k0_off35 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v314 : Index := Scalar.indexCast v6
  let c768_46 : Index := 768#32
  ![v314.toNat, 768]
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_56 : BitVec 32 := 16#32
  let v348 : BitVec 32 := Scalar.muli arg7 c16_i32_56
  v348
def k0_off36 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_56 : BitVec 32 := 16#32
  let v348 : BitVec 32 := Scalar.muli arg7 c16_i32_56
  let v349 : BitVec 32 := v348
  let v350 : Index := Scalar.indexCast v349
  let c768_57 : Index := 768#32
  ![v350.toNat, 768]
def k0_off37 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v357 : Index := Scalar.indexCast v6
  let c1024_58 : Index := 1024#32
  ![v357.toNat, 1024]
def k0_mult6 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_68 : BitVec 32 := 16#32
  let v391 : BitVec 32 := Scalar.muli arg7 c16_i32_68
  v391
def k0_off38 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_68 : BitVec 32 := 16#32
  let v391 : BitVec 32 := Scalar.muli arg7 c16_i32_68
  let v392 : BitVec 32 := v391
  let v393 : Index := Scalar.indexCast v392
  let c1024_69 : Index := 1024#32
  ![v393.toNat, 1024]
def k0_off39 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v400 : Index := Scalar.indexCast v6
  let c1280_70 : Index := 1280#32
  ![v400.toNat, 1280]
def k0_mult7 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_80 : BitVec 32 := 16#32
  let v434 : BitVec 32 := Scalar.muli arg7 c16_i32_80
  v434
def k0_off40 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_80 : BitVec 32 := 16#32
  let v434 : BitVec 32 := Scalar.muli arg7 c16_i32_80
  let v435 : BitVec 32 := v434
  let v436 : Index := Scalar.indexCast v435
  let c1280_81 : Index := 1280#32
  ![v436.toNat, 1280]
def k0_off41 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v443 : Index := Scalar.indexCast v6
  let c1536_82 : Index := 1536#32
  ![v443.toNat, 1536]
def k0_mult8 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_92 : BitVec 32 := 16#32
  let v477 : BitVec 32 := Scalar.muli arg7 c16_i32_92
  v477
def k0_off42 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_92 : BitVec 32 := 16#32
  let v477 : BitVec 32 := Scalar.muli arg7 c16_i32_92
  let v478 : BitVec 32 := v477
  let v479 : Index := Scalar.indexCast v478
  let c1536_93 : Index := 1536#32
  ![v479.toNat, 1536]
def k0_off43 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v486 : Index := Scalar.indexCast v6
  let c1792_94 : Index := 1792#32
  ![v486.toNat, 1792]
def k0_mult9 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_104 : BitVec 32 := 16#32
  let v520 : BitVec 32 := Scalar.muli arg7 c16_i32_104
  v520
def k0_off44 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_104 : BitVec 32 := 16#32
  let v520 : BitVec 32 := Scalar.muli arg7 c16_i32_104
  let v521 : BitVec 32 := v520
  let v522 : Index := Scalar.indexCast v521
  let c1792_105 : Index := 1792#32
  ![v522.toNat, 1792]
def k0_off45 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v529 : Index := Scalar.indexCast v6
  let c2048_106 : Index := 2048#32
  ![v529.toNat, 2048]
def k0_mult10 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_116 : BitVec 32 := 16#32
  let v563 : BitVec 32 := Scalar.muli arg7 c16_i32_116
  v563
def k0_off46 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_116 : BitVec 32 := 16#32
  let v563 : BitVec 32 := Scalar.muli arg7 c16_i32_116
  let v564 : BitVec 32 := v563
  let v565 : Index := Scalar.indexCast v564
  let c2048_117 : Index := 2048#32
  ![v565.toNat, 2048]
def k0_off47 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v572 : Index := Scalar.indexCast v6
  let c2304_119 : Index := 2304#32
  ![v572.toNat, 2304]
def k0_mult11 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_129 : BitVec 32 := 16#32
  let v606 : BitVec 32 := Scalar.muli arg7 c16_i32_129
  v606
def k0_off48 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_129 : BitVec 32 := 16#32
  let v606 : BitVec 32 := Scalar.muli arg7 c16_i32_129
  let v607 : BitVec 32 := v606
  let v608 : Index := Scalar.indexCast v607
  let c2304_130 : Index := 2304#32
  ![v608.toNat, 2304]
def k0_off49 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v615 : Index := Scalar.indexCast v6
  let c2560_131 : Index := 2560#32
  ![v615.toNat, 2560]
def k0_mult12 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_141 : BitVec 32 := 16#32
  let v649 : BitVec 32 := Scalar.muli arg7 c16_i32_141
  v649
def k0_off50 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_141 : BitVec 32 := 16#32
  let v649 : BitVec 32 := Scalar.muli arg7 c16_i32_141
  let v650 : BitVec 32 := v649
  let v651 : Index := Scalar.indexCast v650
  let c2560_142 : Index := 2560#32
  ![v651.toNat, 2560]
def k0_off51 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v658 : Index := Scalar.indexCast v6
  let c2816_143 : Index := 2816#32
  ![v658.toNat, 2816]
def k0_mult13 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_153 : BitVec 32 := 16#32
  let v692 : BitVec 32 := Scalar.muli arg7 c16_i32_153
  v692
def k0_off52 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_153 : BitVec 32 := 16#32
  let v692 : BitVec 32 := Scalar.muli arg7 c16_i32_153
  let v693 : BitVec 32 := v692
  let v694 : Index := Scalar.indexCast v693
  let c2816_154 : Index := 2816#32
  ![v694.toNat, 2816]
def k0_off53 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v701 : Index := Scalar.indexCast v6
  let c3072_155 : Index := 3072#32
  ![v701.toNat, 3072]
def k0_mult14 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_165 : BitVec 32 := 16#32
  let v735 : BitVec 32 := Scalar.muli arg7 c16_i32_165
  v735
def k0_off54 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_165 : BitVec 32 := 16#32
  let v735 : BitVec 32 := Scalar.muli arg7 c16_i32_165
  let v736 : BitVec 32 := v735
  let v737 : Index := Scalar.indexCast v736
  let c3072_166 : Index := 3072#32
  ![v737.toNat, 3072]
def k0_off55 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v744 : Index := Scalar.indexCast v6
  let c3328_167 : Index := 3328#32
  ![v744.toNat, 3328]
def k0_mult15 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_177 : BitVec 32 := 16#32
  let v778 : BitVec 32 := Scalar.muli arg7 c16_i32_177
  v778
def k0_off56 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_177 : BitVec 32 := 16#32
  let v778 : BitVec 32 := Scalar.muli arg7 c16_i32_177
  let v779 : BitVec 32 := v778
  let v780 : Index := Scalar.indexCast v779
  let c3328_178 : Index := 3328#32
  ![v780.toNat, 3328]
def k0_off57 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v787 : Index := Scalar.indexCast v6
  let c0_179 : Index := 0#32
  ![v787.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S14x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3584 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 37], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x3584 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S14x64x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S14x32x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S12x14x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S14x512 .f16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S2048x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
abbrev S2x4096x3584 : Shape := ⟨3, ![2, 4096, 3584]⟩
abbrev S3584 : Shape := ⟨1, ![3584]⟩
abbrev S18944x14x32 : Shape := ⟨3, ![18944, 14, 32]⟩
abbrev S18944x14x64 : Shape := ⟨3, ![18944, 14, 64]⟩
abbrev S18944x14x12 : Shape := ⟨3, ![18944, 14, 12]⟩
abbrev S18944x14 : Shape := ⟨2, ![18944, 14]⟩
abbrev S8192x3584 : Shape := ⟨2, ![8192, 3584]⟩
abbrev S1x3584 : Shape := ⟨2, ![1, 3584]⟩
abbrev S14x8192 : Shape := ⟨2, ![14, 8192]⟩
abbrev S4096x2x3584 : Shape := ⟨3, ![4096, 2, 3584]⟩
abbrev S4096x1x3584 : Shape := ⟨3, ![4096, 1, 3584]⟩
abbrev S4096x3584 : Shape := ⟨2, ![4096, 3584]⟩
abbrev S256x3584 : Shape := ⟨2, ![256, 3584]⟩
abbrev S14x256 : Shape := ⟨2, ![14, 256]⟩
abbrev S128x3584 : Shape := ⟨2, ![128, 3584]⟩
abbrev S128x2x3584 : Shape := ⟨3, ![128, 2, 3584]⟩
abbrev S128x1x3584 : Shape := ⟨3, ![128, 1, 3584]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S32x256 : Shape := ⟨2, ![32, 256]⟩
abbrev S1x256 : Shape := ⟨2, ![1, 256]⟩
abbrev S16x256 : Shape := ⟨2, ![16, 256]⟩
abbrev S16x2x256 : Shape := ⟨3, ![16, 2, 256]⟩
abbrev S16x1x256 : Shape := ⟨3, ![16, 1, 256]⟩
abbrev S128x256 : Shape := ⟨2, ![128, 256]⟩
abbrev S14x64x18944 : Shape := ⟨3, ![14, 64, 18944]⟩
abbrev S14x32x18944 : Shape := ⟨3, ![14, 32, 18944]⟩
abbrev S12x14x18944 : Shape := ⟨3, ![12, 14, 18944]⟩
abbrev S14x18944 : Shape := ⟨2, ![14, 18944]⟩
abbrev S8192x18944 : Shape := ⟨2, ![8192, 18944]⟩
abbrev S1024x3584 : Shape := ⟨2, ![1024, 3584]⟩
abbrev S1024x2x3584 : Shape := ⟨3, ![1024, 2, 3584]⟩
abbrev S1024x1x3584 : Shape := ⟨3, ![1024, 1, 3584]⟩
abbrev S14x64x512 : Shape := ⟨3, ![14, 64, 512]⟩
abbrev S14x32x512 : Shape := ⟨3, ![14, 32, 512]⟩
abbrev S12x14x512 : Shape := ⟨3, ![12, 14, 512]⟩
abbrev S14x512 : Shape := ⟨2, ![14, 512]⟩
abbrev S2048x512 : Shape := ⟨2, ![2048, 512]⟩
abbrev S1x1792x512 : Shape := ⟨3, ![1, 1792, 512]⟩
abbrev S1x1792x2x512 : Shape := ⟨4, ![1, 1792, 2, 512]⟩
abbrev S1x1792x1x512 : Shape := ⟨4, ![1, 1792, 1, 512]⟩
abbrev S16x16x512 : Shape := ⟨3, ![16, 16, 512]⟩
abbrev S16x16x2x512 : Shape := ⟨4, ![16, 16, 2, 512]⟩
abbrev S16x16x1x512 : Shape := ⟨4, ![16, 16, 1, 512]⟩
abbrev S1x14x512 : Shape := ⟨3, ![1, 14, 512]⟩
abbrev S1x14x2x512 : Shape := ⟨4, ![1, 14, 2, 512]⟩
abbrev S1x14x1x512 : Shape := ⟨4, ![1, 14, 1, 512]⟩
abbrev S1x32x512 : Shape := ⟨3, ![1, 32, 512]⟩
abbrev S32x512 : Shape := ⟨2, ![32, 512]⟩
abbrev S8x512 : Shape := ⟨2, ![8, 512]⟩
abbrev S1x1x512 : Shape := ⟨3, ![1, 1, 512]⟩
abbrev S1x1x2x512 : Shape := ⟨4, ![1, 1, 2, 512]⟩
abbrev S1x1x1x512 : Shape := ⟨4, ![1, 1, 1, 512]⟩
abbrev S1x512 : Shape := ⟨2, ![1, 512]⟩
abbrev S16x512 : Shape := ⟨2, ![16, 512]⟩
abbrev S1x8x512 : Shape := ⟨3, ![1, 8, 512]⟩
abbrev S1x8x2x512 : Shape := ⟨4, ![1, 8, 2, 512]⟩
abbrev S1x8x1x512 : Shape := ⟨4, ![1, 8, 1, 512]⟩
abbrev S1792x512 : Shape := ⟨2, ![1792, 512]⟩
abbrev S3584x512 : Shape := ⟨2, ![3584, 512]⟩
abbrev S256x2x3584 : Shape := ⟨3, ![256, 2, 3584]⟩
abbrev S256x1x3584 : Shape := ⟨3, ![256, 1, 3584]⟩
abbrev S512x3584 : Shape := ⟨2, ![512, 3584]⟩
abbrev S512x512 : Shape := ⟨2, ![512, 512]⟩
abbrev S2x4096x18944 : Shape := ⟨3, ![2, 4096, 18944]⟩
abbrev S14x2x4096 : Shape := ⟨3, ![14, 2, 4096]⟩
abbrev S2x4096x14 : Shape := ⟨3, ![2, 4096, 14]⟩

abbrev nBuf : Space → Nat
  | .hbm => 20
  | .vmem => 24
  | .smem => 0
  | _ => 0

abbrev bufTy : (tb : Table) → Fin (tcTables nBuf tb) → BufTy
  | .hbm, ⟨0, _⟩ => ⟨S2x4096x3584, .bf16⟩
  | .hbm, ⟨1, _⟩ => ⟨S3584, .f32⟩
  | .hbm, ⟨2, _⟩ => ⟨S18944x14x32, .i8⟩
  | .hbm, ⟨3, _⟩ => ⟨S18944x14x64, .i8⟩
  | .hbm, ⟨4, _⟩ => ⟨S18944x14x12, .i8⟩
  | .hbm, ⟨5, _⟩ => ⟨S18944x14, .f16⟩
  | .hbm, ⟨6, _⟩ => ⟨S8192x3584, .bf16⟩
  | .hbm, ⟨7, _⟩ => ⟨S1x3584, .f32⟩
  | .hbm, ⟨8, _⟩ => ⟨S8192x3584, .i8⟩
  | .hbm, ⟨9, _⟩ => ⟨S14x8192, .f32⟩
  | .hbm, ⟨10, _⟩ => ⟨S4096x2x3584, .bf16⟩
  | .hbm, ⟨11, _⟩ => ⟨S14x64x18944, .i8⟩
  | .hbm, ⟨12, _⟩ => ⟨S14x32x18944, .i8⟩
  | .hbm, ⟨13, _⟩ => ⟨S12x14x18944, .i8⟩
  | .hbm, ⟨14, _⟩ => ⟨S14x18944, .f16⟩
  | .hbm, ⟨15, _⟩ => ⟨S8192x18944, .bf16⟩
  | .hbm, ⟨16, _⟩ => ⟨S2x4096x18944, .bf16⟩
  | .hbm, ⟨17, _⟩ => ⟨S2x4096x3584, .i8⟩
  | .hbm, ⟨18, _⟩ => ⟨S14x2x4096, .f32⟩
  | .hbm, ⟨19, _⟩ => ⟨S2x4096x14, .f32⟩
  | .local _ .vmem, ⟨0, _⟩ => ⟨S256x3584, .bf16⟩
  | .local _ .vmem, ⟨1, _⟩ => ⟨S256x3584, .bf16⟩
  | .local _ .vmem, ⟨2, _⟩ => ⟨S1x3584, .f32⟩
  | .local _ .vmem, ⟨3, _⟩ => ⟨S256x3584, .i8⟩
  | .local _ .vmem, ⟨4, _⟩ => ⟨S256x3584, .i8⟩
  | .local _ .vmem, ⟨5, _⟩ => ⟨S14x256, .f32⟩
  | .local _ .vmem, ⟨6, _⟩ => ⟨S14x256, .f32⟩
  | .local _ .vmem, ⟨7, _⟩ => ⟨S128x2x3584, .bf16⟩
  | .local _ .vmem, ⟨8, _⟩ => ⟨S128x2x3584, .bf16⟩
  | .local _ .vmem, ⟨9, _⟩ => ⟨S256x128, .f32⟩
  | .local _ .vmem, ⟨10, _⟩ => ⟨S1024x2x3584, .bf16⟩
  | .local _ .vmem, ⟨11, _⟩ => ⟨S1024x2x3584, .bf16⟩
  | .local _ .vmem, ⟨12, _⟩ => ⟨S14x64x512, .i8⟩
  | .local _ .vmem, ⟨13, _⟩ => ⟨S14x64x512, .i8⟩
  | .local _ .vmem, ⟨14, _⟩ => ⟨S14x32x512, .i8⟩
  | .local _ .vmem, ⟨15, _⟩ => ⟨S14x32x512, .i8⟩
  | .local _ .vmem, ⟨16, _⟩ => ⟨S12x14x512, .i8⟩
  | .local _ .vmem, ⟨17, _⟩ => ⟨S12x14x512, .i8⟩
  | .local _ .vmem, ⟨18, _⟩ => ⟨S14x512, .f16⟩
  | .local _ .vmem, ⟨19, _⟩ => ⟨S14x512, .f16⟩
  | .local _ .vmem, ⟨20, _⟩ => ⟨S2048x512, .bf16⟩
  | .local _ .vmem, ⟨21, _⟩ => ⟨S2048x512, .bf16⟩
  | .local _ .vmem, ⟨22, _⟩ => ⟨S1x1792x2x512, .bf16⟩
  | .local _ .vmem, ⟨23, _⟩ => ⟨S16x16x2x512, .bf16⟩
  | _, _ => ⟨S2x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  v5
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v8 : Index := Scalar.indexCast v6
  let c0_4 : Index := 0#32
  ![v8.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v14 : Index := Scalar.indexCast v6
  let c128 : Index := 128#32
  ![v14.toNat, 128]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v20 : Index := Scalar.indexCast v6
  let c256 : Index := 256#32
  ![v20.toNat, 256]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v26 : Index := Scalar.indexCast v6
  let c384 : Index := 384#32
  ![v26.toNat, 384]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v32 : Index := Scalar.indexCast v6
  let c512 : Index := 512#32
  ![v32.toNat, 512]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v38 : Index := Scalar.indexCast v6
  let c640 : Index := 640#32
  ![v38.toNat, 640]
def k0_off7 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v44 : Index := Scalar.indexCast v6
  let c768 : Index := 768#32
  ![v44.toNat, 768]
def k0_off8 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v50 : Index := Scalar.indexCast v6
  let c896 : Index := 896#32
  ![v50.toNat, 896]
def k0_off9 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v56 : Index := Scalar.indexCast v6
  let c1024 : Index := 1024#32
  ![v56.toNat, 1024]
def k0_off10 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v62 : Index := Scalar.indexCast v6
  let c1152 : Index := 1152#32
  ![v62.toNat, 1152]
def k0_off11 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v68 : Index := Scalar.indexCast v6
  let c1280 : Index := 1280#32
  ![v68.toNat, 1280]
def k0_off12 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v74 : Index := Scalar.indexCast v6
  let c1408 : Index := 1408#32
  ![v74.toNat, 1408]
def k0_off13 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v80 : Index := Scalar.indexCast v6
  let c1536 : Index := 1536#32
  ![v80.toNat, 1536]
def k0_off14 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v86 : Index := Scalar.indexCast v6
  let c1664 : Index := 1664#32
  ![v86.toNat, 1664]
def k0_off15 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v92 : Index := Scalar.indexCast v6
  let c1792 : Index := 1792#32
  ![v92.toNat, 1792]
def k0_off16 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v98 : Index := Scalar.indexCast v6
  let c1920 : Index := 1920#32
  ![v98.toNat, 1920]
def k0_off17 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v104 : Index := Scalar.indexCast v6
  let c2048 : Index := 2048#32
  ![v104.toNat, 2048]
def k0_off18 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v110 : Index := Scalar.indexCast v6
  let c2176 : Index := 2176#32
  ![v110.toNat, 2176]
def k0_off19 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v116 : Index := Scalar.indexCast v6
  let c2304 : Index := 2304#32
  ![v116.toNat, 2304]
def k0_off20 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v122 : Index := Scalar.indexCast v6
  let c2432 : Index := 2432#32
  ![v122.toNat, 2432]
def k0_off21 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v128 : Index := Scalar.indexCast v6
  let c2560 : Index := 2560#32
  ![v128.toNat, 2560]
def k0_off22 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v134 : Index := Scalar.indexCast v6
  let c2688 : Index := 2688#32
  ![v134.toNat, 2688]
def k0_off23 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v140 : Index := Scalar.indexCast v6
  let c2816 : Index := 2816#32
  ![v140.toNat, 2816]
def k0_off24 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v146 : Index := Scalar.indexCast v6
  let c2944 : Index := 2944#32
  ![v146.toNat, 2944]
def k0_off25 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v152 : Index := Scalar.indexCast v6
  let c3072 : Index := 3072#32
  ![v152.toNat, 3072]
def k0_off26 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v158 : Index := Scalar.indexCast v6
  let c3200 : Index := 3200#32
  ![v158.toNat, 3200]
def k0_off27 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v164 : Index := Scalar.indexCast v6
  let c3328 : Index := 3328#32
  ![v164.toNat, 3328]
def k0_off28 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v170 : Index := Scalar.indexCast v6
  let c3456 : Index := 3456#32
  ![v170.toNat, 3456]
def k0_off29 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v185 : Index := Scalar.indexCast v6
  let c0_9 : Index := 0#32
  ![v185.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32 : BitVec 32 := 16#32
  let v219 : BitVec 32 := Scalar.muli arg7 c16_i32
  v219
def k0_off30 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32 : BitVec 32 := 16#32
  let v219 : BitVec 32 := Scalar.muli arg7 c16_i32
  let v220 : BitVec 32 := v219
  let v221 : Index := Scalar.indexCast v220
  let c0_19 : Index := 0#32
  ![v221.toNat, 0, 0]
def k0_off31 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v228 : Index := Scalar.indexCast v6
  let c256_21 : Index := 256#32
  ![v228.toNat, 256]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_31 : BitVec 32 := 16#32
  let v262 : BitVec 32 := Scalar.muli arg7 c16_i32_31
  v262
def k0_off32 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_31 : BitVec 32 := 16#32
  let v262 : BitVec 32 := Scalar.muli arg7 c16_i32_31
  let v263 : BitVec 32 := v262
  let v264 : Index := Scalar.indexCast v263
  let c256_32 : Index := 256#32
  ![v264.toNat, 0, 256]
def k0_off33 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v271 : Index := Scalar.indexCast v6
  let c512_34 : Index := 512#32
  ![v271.toNat, 512]
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_44 : BitVec 32 := 16#32
  let v305 : BitVec 32 := Scalar.muli arg7 c16_i32_44
  v305
def k0_off34 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_44 : BitVec 32 := 16#32
  let v305 : BitVec 32 := Scalar.muli arg7 c16_i32_44
  let v306 : BitVec 32 := v305
  let v307 : Index := Scalar.indexCast v306
  let c512_45 : Index := 512#32
  ![v307.toNat, 0, 512]
def k0_off35 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v314 : Index := Scalar.indexCast v6
  let c768_46 : Index := 768#32
  ![v314.toNat, 768]
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_56 : BitVec 32 := 16#32
  let v348 : BitVec 32 := Scalar.muli arg7 c16_i32_56
  v348
def k0_off36 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_56 : BitVec 32 := 16#32
  let v348 : BitVec 32 := Scalar.muli arg7 c16_i32_56
  let v349 : BitVec 32 := v348
  let v350 : Index := Scalar.indexCast v349
  let c768_57 : Index := 768#32
  ![v350.toNat, 0, 768]
def k0_off37 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v357 : Index := Scalar.indexCast v6
  let c1024_58 : Index := 1024#32
  ![v357.toNat, 1024]
def k0_mult6 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_68 : BitVec 32 := 16#32
  let v391 : BitVec 32 := Scalar.muli arg7 c16_i32_68
  v391
def k0_off38 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_68 : BitVec 32 := 16#32
  let v391 : BitVec 32 := Scalar.muli arg7 c16_i32_68
  let v392 : BitVec 32 := v391
  let v393 : Index := Scalar.indexCast v392
  let c1024_69 : Index := 1024#32
  ![v393.toNat, 0, 1024]
def k0_off39 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v400 : Index := Scalar.indexCast v6
  let c1280_70 : Index := 1280#32
  ![v400.toNat, 1280]
def k0_mult7 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_80 : BitVec 32 := 16#32
  let v434 : BitVec 32 := Scalar.muli arg7 c16_i32_80
  v434
def k0_off40 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_80 : BitVec 32 := 16#32
  let v434 : BitVec 32 := Scalar.muli arg7 c16_i32_80
  let v435 : BitVec 32 := v434
  let v436 : Index := Scalar.indexCast v435
  let c1280_81 : Index := 1280#32
  ![v436.toNat, 0, 1280]
def k0_off41 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v443 : Index := Scalar.indexCast v6
  let c1536_82 : Index := 1536#32
  ![v443.toNat, 1536]
def k0_mult8 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_92 : BitVec 32 := 16#32
  let v477 : BitVec 32 := Scalar.muli arg7 c16_i32_92
  v477
def k0_off42 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_92 : BitVec 32 := 16#32
  let v477 : BitVec 32 := Scalar.muli arg7 c16_i32_92
  let v478 : BitVec 32 := v477
  let v479 : Index := Scalar.indexCast v478
  let c1536_93 : Index := 1536#32
  ![v479.toNat, 0, 1536]
def k0_off43 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v486 : Index := Scalar.indexCast v6
  let c1792_94 : Index := 1792#32
  ![v486.toNat, 1792]
def k0_mult9 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_104 : BitVec 32 := 16#32
  let v520 : BitVec 32 := Scalar.muli arg7 c16_i32_104
  v520
def k0_off44 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_104 : BitVec 32 := 16#32
  let v520 : BitVec 32 := Scalar.muli arg7 c16_i32_104
  let v521 : BitVec 32 := v520
  let v522 : Index := Scalar.indexCast v521
  let c1792_105 : Index := 1792#32
  ![v522.toNat, 0, 1792]
def k0_off45 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v529 : Index := Scalar.indexCast v6
  let c2048_106 : Index := 2048#32
  ![v529.toNat, 2048]
def k0_mult10 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_116 : BitVec 32 := 16#32
  let v563 : BitVec 32 := Scalar.muli arg7 c16_i32_116
  v563
def k0_off46 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_116 : BitVec 32 := 16#32
  let v563 : BitVec 32 := Scalar.muli arg7 c16_i32_116
  let v564 : BitVec 32 := v563
  let v565 : Index := Scalar.indexCast v564
  let c2048_117 : Index := 2048#32
  ![v565.toNat, 0, 2048]
def k0_off47 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v572 : Index := Scalar.indexCast v6
  let c2304_119 : Index := 2304#32
  ![v572.toNat, 2304]
def k0_mult11 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_129 : BitVec 32 := 16#32
  let v606 : BitVec 32 := Scalar.muli arg7 c16_i32_129
  v606
def k0_off48 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_129 : BitVec 32 := 16#32
  let v606 : BitVec 32 := Scalar.muli arg7 c16_i32_129
  let v607 : BitVec 32 := v606
  let v608 : Index := Scalar.indexCast v607
  let c2304_130 : Index := 2304#32
  ![v608.toNat, 0, 2304]
def k0_off49 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v615 : Index := Scalar.indexCast v6
  let c2560_131 : Index := 2560#32
  ![v615.toNat, 2560]
def k0_mult12 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_141 : BitVec 32 := 16#32
  let v649 : BitVec 32 := Scalar.muli arg7 c16_i32_141
  v649
def k0_off50 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_141 : BitVec 32 := 16#32
  let v649 : BitVec 32 := Scalar.muli arg7 c16_i32_141
  let v650 : BitVec 32 := v649
  let v651 : Index := Scalar.indexCast v650
  let c2560_142 : Index := 2560#32
  ![v651.toNat, 0, 2560]
def k0_off51 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v658 : Index := Scalar.indexCast v6
  let c2816_143 : Index := 2816#32
  ![v658.toNat, 2816]
def k0_mult13 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_153 : BitVec 32 := 16#32
  let v692 : BitVec 32 := Scalar.muli arg7 c16_i32_153
  v692
def k0_off52 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_153 : BitVec 32 := 16#32
  let v692 : BitVec 32 := Scalar.muli arg7 c16_i32_153
  let v693 : BitVec 32 := v692
  let v694 : Index := Scalar.indexCast v693
  let c2816_154 : Index := 2816#32
  ![v694.toNat, 0, 2816]
def k0_off53 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v701 : Index := Scalar.indexCast v6
  let c3072_155 : Index := 3072#32
  ![v701.toNat, 3072]
def k0_mult14 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_165 : BitVec 32 := 16#32
  let v735 : BitVec 32 := Scalar.muli arg7 c16_i32_165
  v735
def k0_off54 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_165 : BitVec 32 := 16#32
  let v735 : BitVec 32 := Scalar.muli arg7 c16_i32_165
  let v736 : BitVec 32 := v735
  let v737 : Index := Scalar.indexCast v736
  let c3072_166 : Index := 3072#32
  ![v737.toNat, 0, 3072]
def k0_off55 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v744 : Index := Scalar.indexCast v6
  let c3328_167 : Index := 3328#32
  ![v744.toNat, 3328]
def k0_mult15 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_177 : BitVec 32 := 16#32
  let v778 : BitVec 32 := Scalar.muli arg7 c16_i32_177
  v778
def k0_off56 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32_177 : BitVec 32 := 16#32
  let v778 : BitVec 32 := Scalar.muli arg7 c16_i32_177
  let v779 : BitVec 32 := v778
  let v780 : Index := Scalar.indexCast v779
  let c3328_178 : Index := 3328#32
  ![v780.toNat, 0, 3328]
def k0_off57 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v5 : BitVec 32 := Scalar.muli arg7 c32_i32
  let v6 : BitVec 32 := v5
  let v787 : Index := Scalar.indexCast v6
  let c0_179 : Index := 0#32
  ![v787.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S14x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 37], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, 0, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S14x64x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S14x32x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S12x14x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S14x512 .f16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S2048x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S2x4096x3584 : Shape := ⟨3, ![2, 4096, 3584]⟩
abbrev S3584 : Shape := ⟨1, ![3584]⟩
abbrev S18944x14x32 : Shape := ⟨3, ![18944, 14, 32]⟩
abbrev S18944x14x64 : Shape := ⟨3, ![18944, 14, 64]⟩
abbrev S18944x14x12 : Shape := ⟨3, ![18944, 14, 12]⟩
abbrev S18944x14 : Shape := ⟨2, ![18944, 14]⟩
abbrev S_ : Shape := ⟨0, ![]⟩
abbrev S2x4096 : Shape := ⟨2, ![2, 4096]⟩
abbrev S2x4096x1 : Shape := ⟨3, ![2, 4096, 1]⟩
abbrev S1x1x3584 : Shape := ⟨3, ![1, 1, 3584]⟩
abbrev S2x4096x14x256 : Shape := ⟨4, ![2, 4096, 14, 256]⟩
abbrev S2x4096x14 : Shape := ⟨3, ![2, 4096, 14]⟩
abbrev S2x4096x14x1 : Shape := ⟨4, ![2, 4096, 14, 1]⟩
abbrev S2x4096x14x2x4x32 : Shape := ⟨6, ![2, 4096, 14, 2, 4, 32]⟩
abbrev S4 : Shape := ⟨1, ![4]⟩
abbrev S4x1 : Shape := ⟨2, ![4, 1]⟩
abbrev S18944x14x2x1x32 : Shape := ⟨5, ![18944, 14, 2, 1, 32]⟩
abbrev S1x1x1x4x1 : Shape := ⟨5, ![1, 1, 1, 4, 1]⟩
abbrev S18944x14x2x4x32 : Shape := ⟨5, ![18944, 14, 2, 4, 32]⟩
abbrev S2 : Shape := ⟨1, ![2]⟩
abbrev S2x1 : Shape := ⟨2, ![2, 1]⟩
abbrev S1x4 : Shape := ⟨2, ![1, 4]⟩
abbrev S2x4 : Shape := ⟨2, ![2, 4]⟩
abbrev S2x4x1 : Shape := ⟨3, ![2, 4, 1]⟩
abbrev S18944x14x1x1x32 : Shape := ⟨5, ![18944, 14, 1, 1, 32]⟩
abbrev S1x1x2x4x1 : Shape := ⟨5, ![1, 1, 2, 4, 1]⟩
abbrev S18944x14x8 : Shape := ⟨3, ![18944, 14, 8]⟩
abbrev S18944x14x1x8 : Shape := ⟨4, ![18944, 14, 1, 8]⟩
abbrev S1x1x2x1 : Shape := ⟨4, ![1, 1, 2, 1]⟩
abbrev S18944x14x2x8 : Shape := ⟨4, ![18944, 14, 2, 8]⟩
abbrev S18944x14x4 : Shape := ⟨3, ![18944, 14, 4]⟩
abbrev S18944x14x1x4 : Shape := ⟨4, ![18944, 14, 1, 4]⟩
abbrev S1x1x4x1 : Shape := ⟨4, ![1, 1, 4, 1]⟩
abbrev S18944x14x4x4 : Shape := ⟨4, ![18944, 14, 4, 4]⟩
abbrev S18944x14x16 : Shape := ⟨3, ![18944, 14, 16]⟩
abbrev S18944x14x1 : Shape := ⟨3, ![18944, 14, 1]⟩
abbrev S18944x14x2x4x2x16 : Shape := ⟨6, ![18944, 14, 2, 4, 2, 16]⟩
abbrev S18944x14x2x4x2x1 : Shape := ⟨6, ![18944, 14, 2, 4, 2, 1]⟩
abbrev S2x4096x14x1x1x32 : Shape := ⟨6, ![2, 4096, 14, 1, 1, 32]⟩
abbrev S2x4096x14x32 : Shape := ⟨4, ![2, 4096, 14, 32]⟩
abbrev S2x4096x18944 : Shape := ⟨3, ![2, 4096, 18944]⟩

abbrev nBuf : Space → Nat
  | .hbm => 197
  | .vmem => 5
  | .smem => 0
  | _ => 0

abbrev hbmTy0_0 (i : Nat) : BufTy := match i % 128 with
  | 0 => ⟨S2x4096x3584, .bf16⟩
  | 1 => ⟨S3584, .f32⟩
  | 2 => ⟨S18944x14x32, .i8⟩
  | 3 => ⟨S18944x14x64, .i8⟩
  | 4 => ⟨S18944x14x12, .i8⟩
  | 5 => ⟨S18944x14, .f16⟩
  | 6 => ⟨S2x4096x3584, .f32⟩
  | 7 => ⟨S2x4096x3584, .f32⟩
  | 8 => ⟨S_, .f32⟩
  | 9 => ⟨S2x4096, .f32⟩
  | 10 => ⟨S2x4096x1, .f32⟩
  | 11 => ⟨S_, .f32⟩
  | 12 => ⟨S2x4096x1, .f32⟩
  | 13 => ⟨S2x4096x1, .f32⟩
  | 14 => ⟨S_, .f32⟩
  | 15 => ⟨S2x4096x1, .f32⟩
  | 16 => ⟨S2x4096x1, .f32⟩
  | 17 => ⟨S2x4096x1, .f32⟩
  | 18 => ⟨S2x4096x3584, .f32⟩
  | 19 => ⟨S2x4096x3584, .f32⟩
  | 20 => ⟨S1x1x3584, .f32⟩
  | 21 => ⟨S2x4096x3584, .f32⟩
  | 22 => ⟨S2x4096x3584, .f32⟩
  | 23 => ⟨S2x4096x14x256, .f32⟩
  | 24 => ⟨S2x4096x14x256, .f32⟩
  | 25 => ⟨S_, .f32⟩
  | 26 => ⟨S2x4096x14, .f32⟩
  | 27 => ⟨S_, .f32⟩
  | 28 => ⟨S2x4096x14, .f32⟩
  | 29 => ⟨S2x4096x14, .i1⟩
  | 30 => ⟨S_, .f32⟩
  | 31 => ⟨S2x4096x14, .f32⟩
  | 32 => ⟨S2x4096x14, .f32⟩
  | 33 => ⟨S_, .f32⟩
  | 34 => ⟨S_, .f32⟩
  | 35 => ⟨S2x4096x14, .f32⟩
  | 36 => ⟨S2x4096x14, .f32⟩
  | 37 => ⟨S2x4096x14x1, .f32⟩
  | 38 => ⟨S2x4096x14x256, .f32⟩
  | 39 => ⟨S2x4096x14x256, .f32⟩
  | 40 => ⟨S2x4096x14x256, .f32⟩
  | 41 => ⟨S_, .f32⟩
  | 42 => ⟨S_, .f32⟩
  | 43 => ⟨S_, .f32⟩
  | 44 => ⟨S2x4096x14x256, .f32⟩
  | 45 => ⟨S2x4096x14x256, .f32⟩
  | 46 => ⟨S_, .f32⟩
  | 47 => ⟨S2x4096x14x256, .f32⟩
  | 48 => ⟨S2x4096x14x256, .f32⟩
  | 49 => ⟨S2x4096x3584, .f32⟩
  | 50 => ⟨S2x4096x3584, .i8⟩
  | 51 => ⟨S2x4096x3584, .bf16⟩
  | 52 => ⟨S18944x14, .f32⟩
  | 53 => ⟨S2x4096x14x256, .bf16⟩
  | 54 => ⟨S2x4096x14, .bf16⟩
  | 55 => ⟨S2x4096x14x1, .bf16⟩
  | 56 => ⟨S2x4096x14x256, .bf16⟩
  | 57 => ⟨S2x4096x14x256, .bf16⟩
  | 58 => ⟨S2x4096x14x2x4x32, .bf16⟩
  | 59 => ⟨S4, .i32⟩
  | 60 => ⟨S4x1, .i32⟩
  | 61 => ⟨S18944x14x64, .i32⟩
  | 62 => ⟨S18944x14x2x1x32, .i32⟩
  | 63 => ⟨S_, .i32⟩
  | 64 => ⟨S4x1, .i32⟩
  | 65 => ⟨S4x1, .i32⟩
  | 66 => ⟨S1x1x1x4x1, .i32⟩
  | 67 => ⟨S18944x14x2x4x32, .i32⟩
  | 68 => ⟨S18944x14x2x4x32, .i32⟩
  | 69 => ⟨S18944x14x2x4x32, .i32⟩
  | 70 => ⟨S_, .i32⟩
  | 71 => ⟨S18944x14x2x4x32, .i32⟩
  | 72 => ⟨S18944x14x2x4x32, .i32⟩
  | 73 => ⟨S2, .i32⟩
  | 74 => ⟨S2x1, .i32⟩
  | 75 => ⟨S_, .i32⟩
  | 76 => ⟨S2x1, .i32⟩
  | 77 => ⟨S2x1, .i32⟩
  | 78 => ⟨S4, .i32⟩
  | 79 => ⟨S1x4, .i32⟩
  | 80 => ⟨S2x4, .i32⟩
  | 81 => ⟨S2x4, .i32⟩
  | 82 => ⟨S2x4, .i32⟩
  | 83 => ⟨S2x4x1, .i32⟩
  | 84 => ⟨S18944x14x32, .i32⟩
  | 85 => ⟨S18944x14x1x1x32, .i32⟩
  | 86 => ⟨S1x1x2x4x1, .i32⟩
  | 87 => ⟨S18944x14x2x4x32, .i32⟩
  | 88 => ⟨S18944x14x2x4x32, .i32⟩
  | 89 => ⟨S18944x14x2x4x32, .i32⟩
  | 90 => ⟨S_, .i32⟩
  | 91 => ⟨S18944x14x2x4x32, .i32⟩
  | 92 => ⟨S18944x14x2x4x32, .i32⟩
  | 93 => ⟨S_, .i32⟩
  | 94 => ⟨S18944x14x2x4x32, .i32⟩
  | 95 => ⟨S18944x14x2x4x32, .i32⟩
  | 96 => ⟨S18944x14x2x4x32, .i32⟩
  | 97 => ⟨S_, .i32⟩
  | 98 => ⟨S18944x14x2x4x32, .i32⟩
  | 99 => ⟨S18944x14x2x4x32, .i32⟩
  | 100 => ⟨S18944x14x2x4x32, .bf16⟩
  | 101 => ⟨S18944x14x12, .i32⟩
  | 102 => ⟨S18944x14x8, .i32⟩
  | 103 => ⟨S18944x14x1x8, .i32⟩
  | 104 => ⟨S2, .i32⟩
  | 105 => ⟨S_, .i32⟩
  | 106 => ⟨S2, .i32⟩
  | 107 => ⟨S2, .i32⟩
  | 108 => ⟨S2x1, .i32⟩
  | 109 => ⟨S1x1x2x1, .i32⟩
  | 110 => ⟨S18944x14x2x8, .i32⟩
  | 111 => ⟨S18944x14x2x8, .i32⟩
  | 112 => ⟨S18944x14x2x8, .i32⟩
  | 113 => ⟨S_, .i32⟩
  | 114 => ⟨S18944x14x2x8, .i32⟩
  | 115 => ⟨S18944x14x2x8, .i32⟩
  | 116 => ⟨S18944x14x4, .i32⟩
  | 117 => ⟨S18944x14x1x4, .i32⟩
  | 118 => ⟨S4, .i32⟩
  | 119 => ⟨S_, .i32⟩
  | 120 => ⟨S4, .i32⟩
  | 121 => ⟨S4, .i32⟩
  | 122 => ⟨S4x1, .i32⟩
  | 123 => ⟨S1x1x4x1, .i32⟩
  | 124 => ⟨S18944x14x4x4, .i32⟩
  | 125 => ⟨S18944x14x4x4, .i32⟩
  | 126 => ⟨S18944x14x4x4, .i32⟩
  | 127 => ⟨S_, .i32⟩
  | _ => ⟨S2x4096x3584, .bf16⟩

abbrev hbmTy0_1 (i : Nat) : BufTy := match i % 128 with
  | 0 => ⟨S18944x14x4x4, .i32⟩
  | 1 => ⟨S18944x14x4x4, .i32⟩
  | 2 => ⟨S18944x14x16, .i32⟩
  | 3 => ⟨S18944x14x16, .i32⟩
  | 4 => ⟨S_, .i32⟩
  | 5 => ⟨S18944x14x16, .i32⟩
  | 6 => ⟨S18944x14x16, .i32⟩
  | 7 => ⟨S18944x14x16, .i32⟩
  | 8 => ⟨S18944x14x1, .f32⟩
  | 9 => ⟨S_, .i32⟩
  | 10 => ⟨S18944x14x16, .i32⟩
  | 11 => ⟨S18944x14x16, .i32⟩
  | 12 => ⟨S18944x14x16, .f32⟩
  | 13 => ⟨S18944x14x16, .f32⟩
  | 14 => ⟨S18944x14x16, .f32⟩
  | 15 => ⟨S18944x14x16, .bf16⟩
  | 16 => ⟨S18944x14x2x4x2x16, .bf16⟩
  | 17 => ⟨S18944x14x2x4x2x1, .bf16⟩
  | 18 => ⟨S18944x14x2x4x2x16, .bf16⟩
  | 19 => ⟨S18944x14x2x4x2x16, .bf16⟩
  | 20 => ⟨S18944x14x2x4x32, .bf16⟩
  | 21 => ⟨S2x4096x14x1x1x32, .bf16⟩
  | 22 => ⟨S2x4096x14x32, .bf16⟩
  | 23 => ⟨S18944x14x1x1x32, .bf16⟩
  | 24 => ⟨S18944x14x32, .bf16⟩
  | 25 => ⟨S2x4096x18944, .f32⟩
  | 26 => ⟨S2x4096x14x1x1x32, .bf16⟩
  | 27 => ⟨S2x4096x14x32, .bf16⟩
  | 28 => ⟨S18944x14x1x1x32, .bf16⟩
  | 29 => ⟨S18944x14x32, .bf16⟩
  | 30 => ⟨S2x4096x18944, .f32⟩
  | 31 => ⟨S2x4096x18944, .f32⟩
  | 32 => ⟨S2x4096x14x1x1x32, .bf16⟩
  | 33 => ⟨S2x4096x14x32, .bf16⟩
  | 34 => ⟨S18944x14x1x1x32, .bf16⟩
  | 35 => ⟨S18944x14x32, .bf16⟩
  | 36 => ⟨S2x4096x18944, .f32⟩
  | 37 => ⟨S2x4096x18944, .f32⟩
  | 38 => ⟨S2x4096x14x1x1x32, .bf16⟩
  | 39 => ⟨S2x4096x14x32, .bf16⟩
  | 40 => ⟨S18944x14x1x1x32, .bf16⟩
  | 41 => ⟨S18944x14x32, .bf16⟩
  | 42 => ⟨S2x4096x18944, .f32⟩
  | 43 => ⟨S2x4096x18944, .f32⟩
  | 44 => ⟨S2x4096x14x1x1x32, .bf16⟩
  | 45 => ⟨S2x4096x14x32, .bf16⟩
  | 46 => ⟨S18944x14x1x1x32, .bf16⟩
  | 47 => ⟨S18944x14x32, .bf16⟩
  | 48 => ⟨S2x4096x18944, .f32⟩
  | 49 => ⟨S2x4096x18944, .f32⟩
  | 50 => ⟨S2x4096x14x1x1x32, .bf16⟩
  | 51 => ⟨S2x4096x14x32, .bf16⟩
  | 52 => ⟨S18944x14x1x1x32, .bf16⟩
  | 53 => ⟨S18944x14x32, .bf16⟩
  | 54 => ⟨S2x4096x18944, .f32⟩
  | 55 => ⟨S2x4096x18944, .f32⟩
  | 56 => ⟨S2x4096x14x1x1x32, .bf16⟩
  | 57 => ⟨S2x4096x14x32, .bf16⟩
  | 58 => ⟨S18944x14x1x1x32, .bf16⟩
  | 59 => ⟨S18944x14x32, .bf16⟩
  | 60 => ⟨S2x4096x18944, .f32⟩
  | 61 => ⟨S2x4096x18944, .f32⟩
  | 62 => ⟨S2x4096x14x1x1x32, .bf16⟩
  | 63 => ⟨S2x4096x14x32, .bf16⟩
  | 64 => ⟨S18944x14x1x1x32, .bf16⟩
  | 65 => ⟨S18944x14x32, .bf16⟩
  | 66 => ⟨S2x4096x18944, .f32⟩
  | 67 => ⟨S2x4096x18944, .f32⟩
  | 68 => ⟨S2x4096x18944, .bf16⟩
  | _ => ⟨S2x4096x3584, .bf16⟩

abbrev hbmTy (i : Nat) : BufTy := match i / 128 with
  | 0 => hbmTy0_0 i
  | 1 => hbmTy0_1 i
  | _ => ⟨S2x4096x3584, .bf16⟩

abbrev bufTy : (tb : Table) → Fin (tcTables nBuf tb) → BufTy
  | .hbm, ⟨i, _⟩ => hbmTy i
  | .local _ .vmem, ⟨0, _⟩ => ⟨S2x4096x3584, .f32⟩
  | .local _ .vmem, ⟨1, _⟩ => ⟨S18944x14, .f16⟩
  | .local _ .vmem, ⟨2, _⟩ => ⟨S2x4096x3584, .i8⟩
  | .local _ .vmem, ⟨3, _⟩ => ⟨S2x4096x3584, .bf16⟩
  | .local _ .vmem, ⟨4, _⟩ => ⟨S18944x14, .f32⟩
  | _, _ => ⟨S2x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_10 : Ref sig .tc := ⟨.hbm, 90, rfl⟩
abbrev main_v63 : Ref sig .tc := ⟨.hbm, 91, rfl⟩
abbrev main_v64 : Ref sig .tc := ⟨.hbm, 92, rfl⟩
abbrev main_c_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_16 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_17 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_18 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x4096x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x14 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18944x14 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Q3k.Pieces0.lean ====
/- What the quantiser's body stores, as lists of pieces of one form each: the codes, the scales, the quantised activations. -/
module

public import proofs.«01_k».proof.Proof.Gen.KernelIdeal.Frame

@[expose] public section

set_option maxRecDepth 65536

noncomputable section

namespace Cert.Q3k

open Idealize.ShloMosaic Idealize.SL Idealize Cert.KernelIdeal Cert.KernelIdeal.Gen

section
variable {F : FTy → Type} [FloatOps F]

/-- One more term of the sum of squares. -/
def sqAdd (acc : FVec F S32x128 .f32) (x : Vec F S32x128 .bf16) : FVec F S32x128 .f32 :=
  addf acc (mulf (extf .f32 (shapeCast S32x128 x shapeCasts_S32x128_S32x128 : FVec F S32x128 .bf16) bitsLt_bf16_f32) (extf .f32 (shapeCast S32x128 x shapeCasts_S32x128_S32x128 : FVec F S32x128 .bf16) bitsLt_bf16_f32))

/-- The sum of the squares of the chunks. -/
def sqSum (x : Fin 28 → Vec F S32x128 .bf16) : FVec F S32x128 .f32 :=
  (List.finRange 28).foldl (fun acc c => sqAdd acc (x c)) (broadcast S32x128 (Scalar.ofBits .f32 0x00000000#32))

/-- The reciprocal root of the mean square. -/
def rRow (acc : FVec F S32x128 .f32) : FVec F S32x1 .f32 :=
  rsqrt (addf (divf (shapeCast S32x1 (multiReduction .add [1] S32 acc 0x00000000#32 reduces_S32x128_S32 (.inl rfl) rfl : FVec F S32 .f32) shapeCasts_S32_S32x1 : FVec F S32x1 .f32)
    (broadcast S32x1 (Scalar.ofBits .f32 0x45600000#32))) (broadcast S32x1 (Scalar.ofBits .f32 0x358637BD#32)))

/-- A block of normed values. -/
def xnTile (r : FVec F S32x1 .f32) (x : Vec F S32x256 .bf16) (g : Vec F S1x256 .f32) : FVec F S32x256 .f32 :=
  mulf (mulf (extf .f32 (shapeCast S32x256 x shapeCasts_S32x256_S32x256 : FVec F S32x256 .bf16) bitsLt_bf16_f32) (broadcastTo S32x256 r broadcasts_S32x1_S32x256))
    (broadcastTo S32x256 (shapeCast S1x256 g shapeCasts_S1x256_S1x256 : FVec F S1x256 .f32) broadcasts_S1x256_S32x256)

/-- The largest magnitude of each row of a block. -/
def amaxT (xn : FVec F S32x256 .f32) : FVec F S32x1 .f32 :=
  shapeCast S32x1 (multiReduction .maximumf [1] S32 (absf xn) 0xFF800000#32 reduces_S32x256_S32 (.inl rfl) rfl : FVec F S32 .f32) shapeCasts_S32_S32x1

/-- The scale of each row of a block. -/
def scaleT (xn : FVec F S32x256 .f32) : FVec F S32x1 .f32 :=
  select (cmpf .oeq (amaxT xn) (broadcast S32x1 (Scalar.ofBits .f32 0x00000000#32)))
    (broadcast S32x1 (Scalar.ofBits .f32 0x3F800000#32)) (divf (amaxT xn) (broadcast S32x1 (Scalar.ofBits .f32 0x42FE0000#32)))

/-- The codes of a block, as floats. -/
def codeT (xn : FVec F S32x256 .f32) : FVec F S32x256 .f32 :=
  minimumf (broadcast S32x256 (Scalar.ofBits .f32 0x42FE0000#32))
    (maximumf (broadcast S32x256 (Scalar.ofBits .f32 0xC2FE0000#32)) (roundeven (divf xn (broadcastTo S32x256 (scaleT xn) broadcasts_S32x1_S32x256))))

/-- The quantised block. -/
def xqT (xn : FVec F S32x256 .f32) : FVec F S32x256 .bf16 :=
  mulf (truncf .bf16 (codeT xn) bitsLt_bf16_f32) (broadcastTo S32x256 (truncf .bf16 (scaleT xn) bitsLt_bf16_f32) broadcasts_S32x1_S32x256)

/-- The quantised block, its rows in pairs. -/
def xqPay (xn : FVec F S32x256 .f32) : Vec F S16x2x256 .bf16 :=
  interleaveRows S16x2x256
    (shapeCast S16x1x256 (rowsOfParity 0 S16x256 (xqT xn) bitcasts_S32x256_w16_S16x256_w32 : FVec F S16x256 .bf16) shapeCasts_S16x256_S16x1x256)
    (shapeCast S16x1x256 (rowsOfParity 1 S16x256 (xqT xn) bitcasts_S32x256_w16_S16x256_w32 : FVec F S16x256 .bf16) shapeCasts_S16x256_S16x1x256) bitcasts_S16x2x256_w16_S16x1x256_w32

/-- The scales of the blocks beside each other: one lane more. -/
def scAdd (prev : FVec F S32x128 .f32) (b : Fin 14) (s : FVec F S32x1 .f32) : FVec F S32x128 .f32 :=
  select (cmpi .eq (iota .tc S32x128 32 [1] iota_S32x128_d1_w32) (broadcast S32x128 (BitVec.ofNat 32 b.val)))
    (broadcastTo S32x128 (shapeCast S32x1 s shapeCasts_S32x1_S32x1 : FVec F S32x1 .f32) broadcasts_S32x1_S32x128) prev

/-- The scales of the blocks beside each other. -/
def scSum (s : Fin 14 → FVec F S32x1 .f32) : FVec F S32x128 .f32 :=
  shapeCast S32x128 ((List.finRange 14).foldl (fun prev b => scAdd prev b (s b)) (broadcast S32x128 (Scalar.ofBits .f32 0x00000000#32)) : FVec F S32x128 .f32) shapeCasts_S32x128_S32x128

variable (arg1 : Memref sig .tc .vmem S256x3584 .bf16) (harg1 : arg1.IsWhole) (arg2 : Memref sig .tc .vmem S1x3584 .f32) (harg2 : arg2.IsWhole) (arg6 : Memref sig .tc .vmem S256x128 .f32)
  (x0 : Vec F S256x3584 .bf16) (x1 : Vec F S1x3584 .f32)

theorem inb_sq (k : Fin 8) (c : Fin 28) : ∀ a : Fin 2, (![32 * k.val, 128 * c.val] : Fin 2 → ℕ) a + S32x128.size a ≤ S256x3584.size a := by
  revert k c; decide +kernel
theorem inb_blk (k : Fin 8) (b : Fin 14) : ∀ a : Fin 2, (![32 * k.val, 256 * b.val] : Fin 2 → ℕ) a + S32x256.size a ≤ S256x3584.size a := by
  revert k b; decide +kernel
theorem inb_gain (b : Fin 14) : ∀ a : Fin 2, (![0, 256 * b.val] : Fin 2 → ℕ) a + S1x256.size a ≤ S1x3584.size a := by
  revert b; decide +kernel
theorem inb_xq (k : Fin 8) (b : Fin 14) : ∀ a : Fin 3, (![16 * k.val, 0, 256 * b.val] : Fin 3 → ℕ) a + S16x2x256.size a ≤ S128x2x3584.size a := by
  revert k b; decide +kernel
theorem inb_sct (k : Fin 8) : ∀ a : Fin 2, (![32 * k.val, 0] : Fin 2 → ℕ) a + S32x128.size a ≤ S256x128.size a := by
  revert k; decide +kernel

/-- The reciprocal roots of rows `32 k` to `32 k + 31`. -/
def rRd (k : Fin 8) : FVec F S32x1 .f32 :=
  rRow (sqSum fun c => View.readAt (Elt F) arg1.view (Rect.unit (s := S256x3584) ![32 * k.val, 128 * c.val] S32x128.size (inb_sq k c)).toLoadRect (harg1.unread x0))

/-- Block `b` of rows `32 k` to `32 k + 31`, normed. -/
def xnRd (k : Fin 8) (b : Fin 14) : FVec F S32x256 .f32 :=
  xnTile (rRd arg1 harg1 x0 k)
    (View.readAt (Elt F) arg1.view (Rect.unit (s := S256x3584) ![32 * k.val, 256 * b.val] S32x256.size (inb_blk k b)).toLoadRect (harg1.unread x0))
    (View.readAt (Elt F) arg2.view (Rect.unit (s := S1x3584) ![0, 256 * b.val] S1x256.size (inb_gain b)).toLoadRect (harg2.unread x1))

theorem lt_k (n : Fin 112) : n.val / 14 < 8 := by omega
theorem lt_b (n : Fin 112) : n.val % 14 < 14 := by omega

/-- The codes of one block of thirty-two rows. -/
def codePiece (n : Fin 112) : View.Piece (Elt F) S256x3584 .i8 :=
  ⟨Rect.unit ![32 * (n.val / 14), 256 * (n.val % 14)] S32x256.size (inb_blk ⟨n.val / 14, lt_k n⟩ ⟨n.val % 14, lt_b n⟩),
    fptosi 8 (codeT (xnRd arg1 harg1 arg2 harg2 x0 x1 ⟨n.val / 14, lt_k n⟩ ⟨n.val % 14, lt_b n⟩))⟩
/-- The quantised values of one block of thirty-two rows. -/
def xqPiece (n : Fin 112) : View.Piece (Elt F) S128x2x3584 .bf16 :=
  ⟨Rect.unit ![16 * (n.val / 14), 0, 256 * (n.val % 14)] S16x2x256.size (inb_xq ⟨n.val / 14, lt_k n⟩ ⟨n.val % 14, lt_b n⟩),
    xqPay (xnRd arg1 harg1 arg2 harg2 x0 x1 ⟨n.val / 14, lt_k n⟩ ⟨n.val % 14, lt_b n⟩)⟩
/-- The scales of thirty-two rows. -/
def scPiece (k : Fin 8) : View.Piece (Elt F) S256x128 .f32 :=
  ⟨Rect.unit ![32 * k.val, 0] S32x128.size (inb_sct k), scSum fun b => scaleT (xnRd arg1 harg1 arg2 harg2 x0 x1 k b)⟩

def codePieces : List (View.Piece (Elt F) S256x3584 .i8) := (List.finRange 112).reverse.map (codePiece arg1 harg1 arg2 harg2 x0 x1)
def xqPieces : List (View.Piece (Elt F) S128x2x3584 .bf16) := (List.finRange 112).reverse.map (xqPiece arg1 harg1 arg2 harg2 x0 x1)
def scPieces : List (View.Piece (Elt F) S256x128 .f32) := (List.finRange 8).reverse.map (scPiece arg1 harg1 arg2 harg2 x0 x1)

variable (c : Dev nD) (i : grid0.Coords) (arg3 : Memref sig .tc .vmem S256x3584 .i8) (harg3 : arg3.IsWhole) (arg4 : Memref sig .tc .vmem S14x256 .f32) (harg4 : arg4.IsWhole) (arg5 : Memref sig .tc .vmem S128x2x3584 .bf16) (harg5 : arg5.IsWhole) (harg6 : arg6.IsWhole)

theorem codePieces_eq :
    (kernelRun0_A c i arg1 harg1 arg2 harg2 arg3 harg3 arg4 harg4 arg5 harg5 arg6 harg6 x0 x1).1 = codePieces arg1 harg1 arg2 harg2 x0 x1 := by
  sl_kernel_rfl

theorem xqPieces_eq :
    (kernelRun0_A c i arg1 harg1 arg2 harg2 arg3 harg3 arg4 harg4 arg5 harg5 arg6 harg6 x0 x1).2.2.1 = xqPieces arg1 harg1 arg2 harg2 x0 x1 := by
  sl_kernel_rfl

theorem scalesPiece_eq :
    (kernelRun0_A c i arg1 harg1 arg2 harg2 arg3 harg3 arg4 harg4 arg5 harg5 arg6 harg6 x0 x1).2.1
      = [⟨Rect.unit ![0, 0] S14x256.size inb_S14x256_S14x256_0_0,
          k0_pay6 (View.readCov arg6.view (scPieces arg1 harg1 arg2 harg2 x0 x1)
            (Rect.unit (s := S256x128) ![0, 0] S256x128.size inb_S256x128_S256x128_0_0).toLoadRect)⟩] := by
  sl_kernel_rfl
end

end Cert.Q3k

end
-- ==== Proof.Q3k.Spec.lean ====
/- The quantiser of one row: the norm, the scales and the codes as extended reals. -/
module

public import Idealize.ShloMosaic.Lib.Pointwise

@[expose] public section

noncomputable section

namespace Cert.Q3k

open Idealize.ShloMosaic Idealize

/-- The reciprocal root of a row's mean square. -/
def rmsR (x : Fin 3584 → EReal) : EReal :=
  Ideal.rsqrt (Ideal.div (∑ c, x c * x c) (Ideal.ofBits .f32 1163919360#32) + Ideal.ofBits .f32 897988541#32)

/-- A normed value of a row. -/
def normed (x g : Fin 3584 → EReal) (c : Fin 3584) : EReal := x c * rmsR x * g c

/-- The largest magnitude in a block of a normed row. -/
def amax (x g : Fin 3584 → EReal) (b : Fin 14) : EReal :=
  Finset.fold max (Ideal.ofBits .f32 4286578688#32) (fun l : Fin 256 => FloatOps.absf (F := Ideal) (φ := .f32) (normed x g ⟨256 * b.val + l.val, by omega⟩)) Finset.univ

/-- The scale of a block. -/
def scl (x g : Fin 3584 → EReal) (b : Fin 14) : EReal :=
  if amax x g b = 0 then 1 else Ideal.div (amax x g b) (Ideal.ofBits .f32 1123942400#32)

/-- The code of a value, before its conversion to an integer. -/
def code (x g : Fin 3584 → EReal) (c : Fin 3584) : EReal :=
  min (Ideal.ofBits .f32 1123942400#32) (max (Ideal.ofBits .f32 3271426048#32)
    (Ideal.liftRound Ideal.roundHalfEven (Ideal.div (normed x g c) (scl x g ⟨c.val / 256, by omega⟩))))

/-- The quantised value. -/
def xqv (x g : Fin 3584 → EReal) (c : Fin 3584) : EReal := code x g c * scl x g ⟨c.val / 256, by omega⟩

end Cert.Q3k

end
-- ==== Proof.Q3k.Words.lean ====
/- The packed-byte arithmetic of the q3k decode: four bytes of a word are unpacked at once, and each byte of the result is
   `low + 4 * high - 4`. -/
module

public import Idealize.ShloMosaic.Lib.Pointwise
public import Idealize.ShloMosaic.Lib.BitcastFour

@[expose] public section

noncomputable section

namespace Cert.Q3k

open Idealize.ShloMosaic

/-- The decoded integer of one weight: two low bits of `q` at position `2 j`, one high bit of `h` at position `k`. -/
def qInt (q h : BitVec 8) (j k : ℕ) : ℤ := ((q.toNat / 2 ^ (2 * j) % 4 + 4 * (h.toNat / 2 ^ k % 2) : ℕ) : ℤ) - 4

/-- The word that the kernel decodes from the words `Q` (low bits) and `H` (high bits) at shifts `s` and `k`. -/
def qWord (Q H s k : BitVec 32) : BitVec 32 :=
  IntOp.ori (IntOp.andi (IntOp.shrui .vector Q s) 50529027#32)
    (IntOp.subi (IntOp.shli .vector (IntOp.xori (IntOp.andi (IntOp.shrui .vector H k) 16843009#32) 16843009#32) 8#32)
      (IntOp.shli .vector (IntOp.xori (IntOp.andi (IntOp.shrui .vector H k) 16843009#32) 16843009#32) 2#32))

/-- Four flags, one in the lowest bit of each byte of a word. -/
def flags (a b c d : Bool) : BitVec 32 :=
  (if a then 1#32 else 0#32) ||| (if b then 256#32 else 0#32) ||| (if c then 65536#32 else 0#32)
    ||| (if d then 16777216#32 else 0#32)

theorem flags_getLsbD : ∀ (a b c d : Bool) (p : Fin 32), (flags a b c d).getLsbD p.val
    = (decide (p.val % 8 = 0) && (![a, b, c, d] ⟨p.val / 8, by omega⟩)) := by decide +kernel

theorem mask_getLsbD : ∀ p : Fin 32, (50529027#32 : BitVec 32).getLsbD p.val = decide (p.val % 8 < 2) := by decide
theorem ones_getLsbD : ∀ p : Fin 32, (16843009#32 : BitVec 32).getLsbD p.val = decide (p.val % 8 = 0) := by decide

/-- `256 n - 4 n` on flags: byte `m` is 252 where the flag is set. -/
theorem flags_sub : ∀ (a b c d : Bool) (m : Fin 4) (i : Fin 8),
    ((flags a b c d <<< 8) - (flags a b c d <<< 2)).getLsbD (8 * m.val + i.val)
      = ((![a, b, c, d] m) && decide (2 ≤ i.val)) := by decide +kernel

/-- The negated flags of the high bits. -/
theorem neg_eq (H : BitVec 32) (k : ℕ) (hk : k < 8) :
    ((H >>> k) &&& 16843009#32) ^^^ 16843009#32
      = flags (!H.getLsbD k) (!H.getLsbD (8 + k)) (!H.getLsbD (16 + k)) (!H.getLsbD (24 + k)) := by
  apply BitVec.eq_of_getLsbD_eq
  intro p hp
  rw [flags_getLsbD _ _ _ _ ⟨p, hp⟩, BitVec.getLsbD_xor, BitVec.getLsbD_and, BitVec.getLsbD_ushiftRight, ones_getLsbD ⟨p, hp⟩]
  by_cases h8 : p % 8 = 0
  · have hc : p = 0 ∨ p = 8 ∨ p = 16 ∨ p = 24 := by omega
    rcases hc with rfl | rfl | rfl | rfl <;> simp [Nat.add_comm]
  · simp [h8]

/-- The byte that one decoded weight is. -/
def qByte (q h : BitVec 8) (j k : ℕ) : BitVec 8 :=
  (q >>> (2 * j) &&& 3#8) ||| (if h.getLsbD k then 0#8 else 252#8)

theorem byte252 : ∀ i : Fin 8, (252#8 : BitVec 8).getLsbD i.val = decide (2 ≤ i.val) := by decide
theorem byte3 : ∀ i : Fin 8, (3#8 : BitVec 8).getLsbD i.val = decide (i.val < 2) := by decide

/-- Byte `m` of the decoded word is the decoded byte of byte `m` of each operand. -/
theorem qWord_getLsbD (Q H : BitVec 32) (q h : BitVec 8) (j k : ℕ) (hj : j < 4) (hk : k < 8) (m : Fin 4)
    (hq : ∀ i : Fin 8, Q.getLsbD (8 * m.val + i.val) = q.getLsbD i.val)
    (hh : ∀ i : Fin 8, H.getLsbD (8 * m.val + i.val) = h.getLsbD i.val) (i : Fin 8) :
    (qWord Q H (BitVec.ofNat 32 (2 * j)) (BitVec.ofNat 32 k)).getLsbD (8 * m.val + i.val) = (qByte q h j k).getLsbD i.val := by
  have ej : (BitVec.ofNat 32 (2 * j)).toNat = 2 * j := by rw [BitVec.toNat_ofNat]; omega
  have ek : (BitVec.ofNat 32 k).toNat = k := by rw [BitVec.toNat_ofNat]; omega
  have hm := m.isLt
  have hi := i.isLt
  have e : qWord Q H (BitVec.ofNat 32 (2 * j)) (BitVec.ofNat 32 k)
      = ((Q >>> (2 * j)) &&& 50529027#32) |||
        (((((H >>> k) &&& 16843009#32) ^^^ 16843009#32) <<< 8) - ((((H >>> k) &&& 16843009#32) ^^^ 16843009#32) <<< 2)) := by
    unfold qWord IntOp.ori IntOp.andi IntOp.subi IntOp.shli IntOp.shrui IntOp.xori
    have h1 : (BitVec.ofNat 32 (2 * j)).toNat < 32 := by rw [ej]; omega
    have h2 : (BitVec.ofNat 32 k).toNat < 32 := by rw [ek]; omega
    have h3 : (8#32 : BitVec 32).toNat < 32 := by decide
    have h4 : (2#32 : BitVec 32).toNat < 32 := by decide
    simp only [if_pos h1, if_pos h2, if_pos h3, if_pos h4]
    simp only [BitVec.ushiftRight_eq', BitVec.shiftLeft_eq', ej, ek]
    rfl
  rw [e, neg_eq H k hk, BitVec.getLsbD_or, BitVec.getLsbD_and, BitVec.getLsbD_ushiftRight, flags_sub,
    mask_getLsbD ⟨8 * m.val + i.val, by omega⟩]
  unfold qByte
  rw [BitVec.getLsbD_or, BitVec.getLsbD_and, BitVec.getLsbD_ushiftRight, byte3 i]
  have hlow : (Q.getLsbD (2 * j + (8 * m.val + i.val)) && decide ((8 * m.val + i.val) % 8 < 2))
      = (q.getLsbD (2 * j + i.val) && decide (i.val < 2)) := by
    rw [show (8 * m.val + i.val) % 8 = i.val by omega]
    by_cases h2 : i.val < 2
    · have := hq ⟨2 * j + i.val, by omega⟩
      rw [show 2 * j + (8 * m.val + i.val) = 8 * m.val + (2 * j + i.val) by omega, this]
    · simp [h2]
  have hflag : (![!H.getLsbD k, !H.getLsbD (8 + k), !H.getLsbD (16 + k), !H.getLsbD (24 + k)] m) = !h.getLsbD k := by
    have := hh ⟨k, hk⟩
    rw [← this]
    fin_cases m <;> simp
  rw [hlow, hflag]
  congr 1
  by_cases hb : h.getLsbD k
  · simp [hb]
  · have := byte252 i
    simp only [hb, Bool.not_false, Bool.true_and, Bool.false_eq_true, if_false, this]

/-- The decoded byte as an integer: the two operands enter through three of their bits. -/
theorem qByte_toInt (q h : BitVec 8) (j k : ℕ) (hj : j < 4) (hk : k < 8) : (qByte q h j k).toInt = qInt q h j k := by
  have ha : ∀ (q : Fin 256) (j : Fin 4), ((BitVec.ofFin (w := 8) q) >>> (2 * j.val) &&& 3#8) = BitVec.ofNat 8 (q.val / 2 ^ (2 * j.val) % 4) := by
    decide +kernel
  have hb : ∀ (h : Fin 256) (k : Fin 8), (BitVec.ofFin (w := 8) h).getLsbD k.val = decide (h.val / 2 ^ k.val % 2 = 1) := by decide +kernel
  have hc : ∀ (a : Fin 4), ((BitVec.ofNat 8 a.val) ||| 0#8).toInt = (a.val : ℤ) ∧ ((BitVec.ofNat 8 a.val) ||| 252#8).toInt = (a.val : ℤ) - 4 := by
    decide +kernel
  unfold qByte qInt
  rw [show q = BitVec.ofFin q.toFin from rfl, show h = BitVec.ofFin h.toFin from rfl, ha q.toFin ⟨j, hj⟩, hb h.toFin ⟨k, hk⟩]
  have h4 : q.toFin.val / 2 ^ (2 * j) % 4 < 4 := Nat.mod_lt _ (by decide)
  obtain ⟨c0, c1⟩ := hc ⟨_, h4⟩
  by_cases h1 : h.toFin.val / 2 ^ k % 2 = 1
  · rw [if_pos (by simpa using h1)]
    refine c0.trans ?_
    show _ = ((q.toFin.val / 2 ^ (2 * j) % 4 + 4 * (h.toFin.val / 2 ^ k % 2) : ℕ) : ℤ) - 4
    rw [h1]; push_cast; omega
  · rw [if_neg (by simpa using h1)]
    refine c1.trans ?_
    show _ = ((q.toFin.val / 2 ^ (2 * j) % 4 + 4 * (h.toFin.val / 2 ^ k % 2) : ℕ) : ℤ) - 4
    rw [show h.toFin.val / 2 ^ k % 2 = 0 by omega]; push_cast; omega

/-- Element `(s, l)` of the decoded tile: bytes viewed as words, decoded, and viewed as bytes again. -/
theorem qTile_toInt (qb hb : (⟨2, ![32, 512]⟩ : Shape).Idx → BitVec 8) (h1 : (⟨2, ![32, 512]⟩ : Shape).Bitcasts 8 ⟨2, ![8, 512]⟩ 32)
    (h2 : (⟨2, ![8, 512]⟩ : Shape).Bitcasts 32 ⟨2, ![32, 512]⟩ 8) (j k : ℕ) (hj : j < 4) (hk : k < 8) (s : Fin 32) (l : Fin 512) :
    (bitcast ⟨2, ![32, 512]⟩ 8 (fun i => qWord (bitcast ⟨2, ![8, 512]⟩ 32 qb h1 i) (bitcast ⟨2, ![8, 512]⟩ 32 hb h1 i)
        (BitVec.ofNat 32 (2 * j)) (BitVec.ofNat 32 k)) h2 (ix2 s l)).toInt
      = qInt (qb (ix2 s l)) (hb (ix2 s l)) j k := by
  rw [← qByte_toInt _ _ j k hj hk]
  congr 1
  apply BitVec.eq_of_getLsbD_eq
  intro i hi
  have hs := s.isLt
  rw [bitcast_getLsbD _ h2 _ i hi (by decide)]
  have hrow : (⟨2, ![32, 512]⟩ : Shape).row (ix2 s l) = s.val := rfl
  have hidx : h2.srcIdx (ix2 s l) (((⟨2, ![32, 512]⟩ : Shape).row (ix2 s l) * 8 + i) / 32)
      (fun a ha => (Nat.div_lt_iff_lt_mul (by decide)).2 (h2.pos_lt (ix2 s l) i hi a ha)) = ix2 (⟨s.val / 4, by omega⟩ : Fin 8) l := by
    funext c
    match c with
    | ⟨0, _⟩ => exact Fin.ext ((h2.srcIdx_row _ _ _ ⟨0, Nat.zero_lt_two⟩ rfl).trans (by rw [hrow]; show _ = s.val / 4; omega))
    | ⟨1, _⟩ => exact Fin.ext (h2.srcIdx_other _ _ _ ⟨1, Nat.one_lt_two⟩ (by show ¬ 1 + 2 = 2; omega))
  rw [hidx, hrow, show (s.val * 8 + i) % 32 = 8 * (s.val % 4) + i by omega]
  refine qWord_getLsbD _ _ _ _ j k hj hk ⟨s.val % 4, by omega⟩ ?_ ?_ ⟨i, hi⟩
  all_goals
    intro i
    have hi := i.isLt
    rw [show (ix2 (⟨s.val / 4, by omega⟩ : Fin 8) l : (⟨2, ![8, 512]⟩ : Shape).Idx) = ValueIdx.ix2 ⟨s.val / 4, by omega⟩ l by
      rw [ix2_eq_valueIdx]]
    rw [bitcast_8_32_getLsbD_ix2 _ h1 _ l _ (by show 8 * (s.val % 4) + i.val < 32; omega) s (by show s.val = 4 * (s.val / 4) + (8 * (s.val % 4) + i.val) / 8; omega)]
    rw [← ix2_eq_valueIdx, show (8 * (s.val % 4) + i.val) % 8 = i.val by omega]

end Cert.Q3k

end
-- ==== Proof.Q3k.Tiles.lean ====
/- The tiles of the q3k matmul's decode, each at an index: the group multipliers `g`, the decoded weights `q`, and their products. -/
module

public import proofs.«01_k».proof.Proof.Gen.KernelIdeal.Skeleton
public import proofs.«01_k».proof.Proof.Q3k.Words

@[expose] public section

set_option maxRecDepth 16384

noncomputable section

namespace Cert.Q3k

open Idealize.ShloMosaic Cert.KernelIdeal

/-- The group multiplier's integer, from the byte `a` of low nibbles and the byte `b` of high bits, at shifts `s` and `k`. -/
def scWord (a b : BitVec 8) (s k : BitVec 32) : BitVec 32 :=
  IntOp.subi (IntOp.ori (IntOp.andi (IntOp.shrsi .vector (a.setWidth 32) s) 15#32)
    (IntOp.shli .vector (IntOp.andi (IntOp.shrsi .vector (b.setWidth 32) k) 3#32) 4#32)) 32#32

theorem concat_rows : Shape.Concatenates [S1x512, S1x512, S1x512, S1x512, S1x512, S1x512, S1x512, S1x512] S8x512 0 := by decide

section
variable {F : FTy → Type} [FloatOps F]

/-- One group's multipliers, both halves of each word holding the same value. -/
def gPay (d : FVec F S14x512 .f32) (a b : Vec F S1x14x512 .i8) (s k : BitVec 32) : Vec F S1x14x2x512 .bf16 :=
  let sc : IVec S14x512 32 := subi (ori (andi (shrsi (extui 32 (shapeCast S14x512 a (by decide) : IVec S14x512 8)) (broadcast S14x512 s)) (broadcast S14x512 15#32))
    (shli (andi (shrsi (extui 32 (shapeCast S14x512 b (by decide) : IVec S14x512 8)) (broadcast S14x512 k)) (broadcast S14x512 3#32)) (broadcast S14x512 4#32)))
    (broadcast S14x512 32#32)
  let g : FVec F S14x512 .f32 := extf .f32 (truncf .bf16 (mulf d (sitofp .f32 sc)) (by decide)) (by decide)
  let h : FVec F S1x14x512 .bf16 := shapeCast S1x14x512 (truncf .bf16 g : FVec F S14x512 .bf16) (by decide)
  interleaveRows S1x14x2x512 (shapeCast S1x14x1x512 h (by decide)) (shapeCast S1x14x1x512 h (by decide)) (by decide)

/-- The decoded weights of thirty-two rows, from the rows of high bits and of low bits. -/
def qTile (hm ql : Vec F S1x32x512 .i8) (s k : BitVec 32) : FVec F S32x512 .bf16 :=
  let H : IVec S8x512 32 := bitcast S8x512 32 (shapeCast S32x512 hm (by decide) : IVec S32x512 8) (by decide)
  let Q : IVec S8x512 32 := bitcast S8x512 32 (shapeCast S32x512 ql (by decide) : IVec S32x512 8) (by decide)
  let neg : IVec S8x512 32 := xori (andi (shrui H (broadcast S8x512 k)) (broadcast S8x512 16843009#32)) (broadcast S8x512 16843009#32)
  let word : IVec S8x512 32 := ori (andi (shrui Q (broadcast S8x512 s)) (broadcast S8x512 50529027#32))
    (subi (shli neg (broadcast S8x512 8#32)) (shli neg (broadcast S8x512 2#32)))
  sitofp .bf16 (bitcast S32x512 8 word (by decide) : IVec S32x512 8)

/-- One row of multipliers, repeated. -/
def gTile (raw : Vec F S1x1x2x512 .bf16) : FVec F S16x512 .bf16 :=
  let lo : FVec F S1x512 .bf16 := shapeCast S1x512 (shapeCast S1x1x512 (rowsOfParity 0 S1x1x1x512 raw (by decide)) (by decide) : FVec F S1x1x512 .bf16) (by decide)
  let hi : FVec F S1x512 .bf16 := shapeCast S1x512 (shapeCast S1x1x512 (rowsOfParity 1 S1x1x1x512 raw (by decide)) (by decide) : FVec F S1x1x512 .bf16) (by decide)
  interleaveRows S16x512
    (concatenate S8x512 0 [⟨S1x512, lo⟩, ⟨S1x512, lo⟩, ⟨S1x512, lo⟩, ⟨S1x512, lo⟩, ⟨S1x512, lo⟩, ⟨S1x512, lo⟩, ⟨S1x512, lo⟩, ⟨S1x512, lo⟩] concat_rows)
    (concatenate S8x512 0 [⟨S1x512, hi⟩, ⟨S1x512, hi⟩, ⟨S1x512, hi⟩, ⟨S1x512, hi⟩, ⟨S1x512, hi⟩, ⟨S1x512, hi⟩, ⟨S1x512, hi⟩, ⟨S1x512, hi⟩] concat_rows)
    (by decide)

theorem slices_half : ∀ t : Fin 2, S32x512.Slices ![16 * t.val, 0] S16x512 := by decide

/-- Sixteen rows of weights: half `t` of a decoded tile times a row of multipliers, as words' halves. -/
def wPay (t : Fin 2) (q : FVec F S32x512 .bf16) (raw : Vec F S1x1x2x512 .bf16) : Vec F S1x8x2x512 .bf16 :=
  let w : FVec F S16x512 .bf16 := mulf (extractStridedSlice S16x512 ![16 * t.val, 0] q (slices_half t)) (gTile raw)
  interleaveRows S1x8x2x512
    (shapeCast S1x8x1x512 (shapeCast S1x8x512 (rowsOfParity 0 S8x512 w (by decide)) (by decide) : FVec F S1x8x512 .bf16) (by decide))
    (shapeCast S1x8x1x512 (shapeCast S1x8x512 (rowsOfParity 1 S8x512 w (by decide)) (by decide) : FVec F S1x8x512 .bf16) (by decide))
    (by decide)
end

theorem gPay_apply (d : FVec Ideal S14x512 .f32) (a b : Vec Ideal S1x14x512 .i8) (s k : BitVec 32) (r : Fin 14) (p : Fin 2) (l : Fin 512) :
    gPay (F := Ideal) d a b s k (ix4 0 r p l)
      = d (ix2 r l) * (((scWord (a (ix3 0 r l)) (b (ix3 0 r l)) s k).toInt : ℝ) : EReal) := by
  fin_cases p
  · pointwise [gPay, scWord]
    rfl
  · pointwise [gPay, scWord]
    rfl

theorem gTile_apply (raw : Vec Ideal S1x1x2x512 .bf16) (a : Fin 8) (p : Fin 2) (l : Fin 512) :
    gTile (F := Ideal) raw (ix2 ⟨2 * a.val + p.val, by omega⟩ l) = raw (ix4 0 0 p l) := by
  fin_cases p <;> fin_cases a <;> (pointwise [gTile])

theorem qTile_apply (hm ql : Vec Ideal S1x32x512 .i8) (j k : ℕ) (hj : j < 4) (hk : k < 8) (s : Fin 32) (l : Fin 512) :
    qTile (F := Ideal) hm ql (BitVec.ofNat 32 (2 * j)) (BitVec.ofNat 32 k) (ix2 s l)
      = (((qInt (ql (ix3 0 s l)) (hm (ix3 0 s l)) j k : ℤ) : ℝ) : EReal) := by
  have h := qTile_toInt (shapeCast S32x512 ql (by decide)) (shapeCast S32x512 hm (by decide)) (by decide) (by decide) j k hj hk s l
  have e (x : Vec Ideal S1x32x512 .i8) : (shapeCast S32x512 x (by decide) : IVec S32x512 8) (ix2 s l) = x (ix3 0 s l) := by pointwise
  rw [e, e] at h
  rw [← h]
  rfl

theorem wPay_apply (t : Fin 2) (q : FVec Ideal S32x512 .bf16) (raw : Vec Ideal S1x1x2x512 .bf16) (a : Fin 8) (p : Fin 2) (l : Fin 512) :
    wPay (F := Ideal) t q raw (ix4 0 a p l) = q (ix2 ⟨16 * t.val + (2 * a.val + p.val), by omega⟩ l) * raw (ix4 0 0 p l) := by
  rw [← gTile_apply raw a p l]
  fin_cases p <;> fin_cases t <;> (pointwise [wPay])

end Cert.Q3k

end
-- ==== Proof.Q3k.Pieces1.lean ====
/- What the matmul's body stores, as three lists of pieces of one form each: the multipliers, the decoded weights, the products. -/
module

public import proofs.«01_k».proof.Proof.Gen.KernelIdeal.Frame
public import proofs.«01_k».proof.Proof.Q3k.Tiles

@[expose] public section

set_option maxRecDepth 65536

noncomputable section

namespace Cert.Q3k

open Idealize.ShloMosaic Idealize.SL Idealize Cert.KernelIdeal Cert.KernelIdeal.Gen

theorem bits_x : S256x2x3584.Bitcasts 16 S256x1x3584 32 := by decide
theorem casts_x : S256x1x3584.ShapeCasts S256x3584 := by decide
theorem bits_x' : S512x3584.Bitcasts 16 S256x3584 32 := by decide
theorem bits_w : S1x1792x2x512.Bitcasts 16 S1x1792x1x512 32 := by decide
theorem casts_w : S1x1792x1x512.ShapeCasts S1x1792x512 := by decide
theorem casts_w' : S1x1792x512.ShapeCasts S1792x512 := by decide
theorem bits_w' : S3584x512.Bitcasts 16 S1792x512 32 := by decide

section
variable {F : FTy → Type} [FloatOps F]

/-- The decoded weights as a matrix. -/
def wMat (raw : Vec F S1x1792x2x512 .bf16) : FVec F S3584x512 .bf16 :=
  interleaveRows S3584x512
    (shapeCast S1792x512 (shapeCast S1x1792x512 (rowsOfParity 0 S1x1792x1x512 raw bits_w) casts_w : FVec F S1x1792x512 .bf16) casts_w' : FVec F S1792x512 .bf16)
    (shapeCast S1792x512 (shapeCast S1x1792x512 (rowsOfParity 1 S1x1792x1x512 raw bits_w) casts_w : FVec F S1x1792x512 .bf16) casts_w' : FVec F S1792x512 .bf16) bits_w'

/-- Five hundred and twelve rows of the product. -/
def yPay (w : FVec F S3584x512 .bf16) (raw : Vec F S256x2x3584 .bf16) : FVec F S512x512 .bf16 :=
  truncf .bf16 (matmul dot_S512x3584_S3584x512_S512x512_1_0_0_1_n_n none
    (interleaveRows S512x3584 (shapeCast S256x3584 (rowsOfParity 0 S256x1x3584 raw bits_x) casts_x)
      (shapeCast S256x3584 (rowsOfParity 1 S256x1x3584 raw bits_x) casts_x) bits_x' : FVec F S512x3584 .bf16)
    w (constant S512x512 .f32 0x00000000#32)) bitsLt_bf16_f32

variable (arg2 : Memref sig .tc .vmem S1024x2x3584 .bf16) (harg2 : arg2.IsWhole) (arg3 : Memref sig .tc .vmem S14x64x512 .i8) (harg3 : arg3.IsWhole) (arg4 : Memref sig .tc .vmem S14x32x512 .i8) (harg4 : arg4.IsWhole) (arg5 : Memref sig .tc .vmem S12x14x512 .i8) (harg5 : arg5.IsWhole) (arg6 : Memref sig .tc .vmem S14x512 .f16) (harg6 : arg6.IsWhole) (arg8 : Memref sig .tc .vmem S1x1792x2x512 .bf16) (arg9 : Memref sig .tc .vmem S16x16x2x512 .bf16)
  (x0 : Vec F S1024x2x3584 .bf16) (x1 : Vec F S14x64x512 .i8) (x2 : Vec F S14x32x512 .i8) (x3 : Vec F S12x14x512 .i8) (x4 : Vec F S14x512 .f16)

theorem inb_g (i : Fin 16) : ∀ a : Fin 4, (![i.val, 0, 0, 0] : Fin 4 → ℕ) a + S1x14x2x512.size a ≤ S16x16x2x512.size a := by
  revert i; decide
theorem inb_sc (i : Fin 12) : ∀ a : Fin 3, (![i.val, 0, 0] : Fin 3 → ℕ) a + S1x14x512.size a ≤ S12x14x512.size a := by
  revert i; decide
theorem inb_raw (i : Fin 16) (b : Fin 14) : ∀ a : Fin 4, (![i.val, b.val, 0, 0] : Fin 4 → ℕ) a + S1x1x2x512.size a ≤ S16x16x2x512.size a := by
  revert i b; decide
theorem inb_hm (b : Fin 14) : ∀ a : Fin 3, (![b.val, 0, 0] : Fin 3 → ℕ) a + S1x32x512.size a ≤ S14x32x512.size a := by
  revert b; decide
theorem inb_ql (b : Fin 14) (h : Fin 2) : ∀ a : Fin 3, (![b.val, 32 * h.val, 0] : Fin 3 → ℕ) a + S1x32x512.size a ≤ S14x64x512.size a := by
  revert b h; decide
theorem inb_w (n : Fin 224) : ∀ a : Fin 4, (![0, 8 * n.val, 0, 0] : Fin 4 → ℕ) a + S1x8x2x512.size a ≤ S1x1792x2x512.size a := by
  revert n; decide +kernel
theorem inb_x (n : Fin 4) : ∀ a : Fin 3, (![256 * n.val, 0, 0] : Fin 3 → ℕ) a + S256x2x3584.size a ≤ S1024x2x3584.size a := by
  revert n; decide
theorem inb_y (n : Fin 4) : ∀ a : Fin 2, (![512 * n.val, 0] : Fin 2 → ℕ) a + S512x512.size a ≤ S2048x512.size a := by
  revert n; decide

/-- Group `i`'s multipliers. -/
def gPiece (i : Fin 16) : View.Piece (Elt F) S16x16x2x512 .bf16 :=
  ⟨Rect.unit ![i.val, 0, 0, 0] S1x14x2x512.size (inb_g i),
    gPay (extf .f32 (shapeCast S14x512 (View.readAt (Elt F) arg6.view (Rect.unit (s := S14x512) ![0, 0] S14x512.size inb_S14x512_S14x512_0_0).toLoadRect (harg6.unread x4) : Vec F S14x512 .f16) (by decide) : FVec F S14x512 .f16) (by decide))
      (View.readAt (Elt F) arg5.view (Rect.unit (s := S12x14x512) ![i.val % 8, 0, 0] S1x14x512.size (inb_sc ⟨i.val % 8, by omega⟩)).toLoadRect (harg5.unread x3))
      (View.readAt (Elt F) arg5.view (Rect.unit (s := S12x14x512) ![8 + i.val % 4, 0, 0] S1x14x512.size (inb_sc ⟨8 + i.val % 4, by omega⟩)).toLoadRect (harg5.unread x3))
      (BitVec.ofNat 32 (4 * (i.val / 8))) (BitVec.ofNat 32 (2 * (i.val / 4)))⟩

/-- The multipliers as stored, last first. -/
def gPieces : List (View.Piece (Elt F) S16x16x2x512 .bf16) := (List.finRange 16).reverse.map (gPiece arg5 harg5 arg6 harg6 x3 x4)

variable (G : List (View.Piece (Elt F) S16x16x2x512 .bf16)) (W : List (View.Piece (Elt F) S1x1792x2x512 .bf16))

/-- Word rows `8n` to `8n + 7` of the decoded weights, the multipliers read from what `G` stored. -/
def wPiece (n : Fin 224) : View.Piece (Elt F) S1x1792x2x512 .bf16 :=
  ⟨Rect.unit ![0, 8 * n.val, 0, 0] S1x8x2x512.size (inb_w n),
    wPay ⟨n.val % 2, by omega⟩
      (qTile (View.readAt (Elt F) arg4.view (Rect.unit (s := S14x32x512) ![n.val / 16, 0, 0] S1x32x512.size (inb_hm ⟨n.val / 16, by omega⟩)).toLoadRect (harg4.unread x2))
        (View.readAt (Elt F) arg3.view (Rect.unit (s := S14x64x512) ![n.val / 16, 32 * (n.val / 8 % 2), 0] S1x32x512.size (inb_ql ⟨n.val / 16, by omega⟩ ⟨n.val / 8 % 2, by omega⟩)).toLoadRect (harg3.unread x1))
        (BitVec.ofNat 32 (2 * (n.val / 2 % 4))) (BitVec.ofNat 32 (4 * (n.val / 8 % 2) + n.val / 2 % 4)))
      (View.readCov arg9.view G
        (Rect.unit (s := S16x16x2x512) ![n.val % 16, n.val / 16, 0, 0] S1x1x2x512.size (inb_raw ⟨n.val % 16, by omega⟩ ⟨n.val / 16, by omega⟩)).toLoadRect)⟩

/-- The decoded weights as stored, last first. -/
def wPieces : List (View.Piece (Elt F) S1x1792x2x512 .bf16) := (List.finRange 224).reverse.map (wPiece arg3 harg3 arg4 harg4 arg9 x1 x2 G)

/-- Rows `512 n` to `512 n + 511` of the product, the weights read from what `W` stored. -/
def yPiece (n : Fin 4) : View.Piece (Elt F) S2048x512 .bf16 :=
  ⟨Rect.unit ![512 * n.val, 0] S512x512.size (inb_y n),
    yPay (wMat (View.readCov arg8.view W
        (Rect.unit (s := S1x1792x2x512) ![0, 0, 0, 0] S1x1792x2x512.size inb_S1x1792x2x512_S1x1792x2x512_0_0_0_0).toLoadRect))
      (View.readAt (Elt F) arg2.view (Rect.unit (s := S1024x2x3584) ![256 * n.val, 0, 0] S256x2x3584.size (inb_x n)).toLoadRect (harg2.unread x0))⟩

/-- The product as stored, last first. -/
def yPieces : List (View.Piece (Elt F) S2048x512 .bf16) := (List.finRange 4).reverse.map (yPiece arg2 harg2 arg8 x0 W)

theorem gPieces_eq (c : Dev nD) : kernelRun1_A.sl.HS1_16 c arg5 harg5 arg6 harg6 x3 x4 = gPieces arg5 harg5 arg6 harg6 x3 x4 := by
  sl_kernel_rfl

theorem wPieces_eq (c : Dev nD) : kernelRun1_A.sl.HS0_224 c arg3 harg3 arg4 harg4 arg5 harg5 arg6 harg6 arg9 x1 x2 x3 x4
    = wPieces arg3 harg3 arg4 harg4 arg9 x1 x2 (kernelRun1_A.sl.HS1_16 c arg5 harg5 arg6 harg6 x3 x4) := by
  sl_kernel_rfl

/-- The body's stores into the output block are the product's pieces. -/
theorem yPieces_eq (c : Dev nD) (i : grid1.Coords) (arg7 : Memref sig .tc .vmem S2048x512 .bf16) (harg7 : arg7.IsWhole) (harg8 : arg8.IsWhole) (harg9 : arg9.IsWhole) :
    (kernelRun1_A c i arg2 harg2 arg3 harg3 arg4 harg4 arg5 harg5 arg6 harg6 arg7 harg7 arg8 harg8 arg9 harg9 x0 x1 x2 x3 x4).1
      = yPieces arg2 harg2 arg8 x0 (wPieces arg3 harg3 arg4 harg4 arg9 x1 x2 (gPieces arg5 harg5 arg6 harg6 x3 x4)) := by
  rw [← gPieces_eq (c := c), ← wPieces_eq]
  sl_kernel_rfl
end

end Cert.Q3k

end
-- ==== Proof.Q3k.Value1.lean ====
/- The matmul's block, at an index: a sum over the 3584 weights, each decoded from its bytes. -/
module

public import proofs.«01_k».proof.Proof.Q3k.Pieces1
public import Idealize.ShloMosaic.Lib.Pipeline.Value
public import Idealize.ShloMosaic.Lib.WholeRead
public import Idealize.ShloMosaic.Lib.Pipeline.ValueKit.Geometry

@[expose] public section

set_option maxRecDepth 16384

noncomputable section

namespace Cert.Q3k

open Idealize.ShloMosaic Idealize.SL Idealize Cert.KernelIdeal Cert.KernelIdeal.Gen

section
variable {m0 m1 m2 m3 n0 n1 n2 n3 : ℕ}

/-- An index of a unit-stride rectangle, placed, by coordinates. -/
theorem emb_ix2 (off : Fin 2 → ℕ) (inb) (a : Fin n0) (b : Fin n1) (A : Fin m0) (B : Fin m1) (hA : A.val = off 0 + a.val) (hB : B.val = off 1 + b.val) :
    (Rect.unit (s := ⟨2, ![m0, m1]⟩) off ![n0, n1] inb).emb (ix2 a b) = ix2 A B := by
  funext x
  apply Fin.ext
  refine (ValueKit.rect_emb_unit_val off _ inb _ x).trans ?_
  fin_cases x
  exacts [hA.symm, hB.symm]

theorem emb_ix3 (off : Fin 3 → ℕ) (inb) (a : Fin n0) (b : Fin n1) (c : Fin n2) (A : Fin m0) (B : Fin m1) (C : Fin m2)
    (hA : A.val = off 0 + a.val) (hB : B.val = off 1 + b.val) (hC : C.val = off 2 + c.val) :
    (Rect.unit (s := ⟨3, ![m0, m1, m2]⟩) off ![n0, n1, n2] inb).emb (ix3 a b c) = ix3 A B C := by
  funext x
  apply Fin.ext
  refine (ValueKit.rect_emb_unit_val off _ inb _ x).trans ?_
  fin_cases x
  exacts [hA.symm, hB.symm, hC.symm]

theorem emb_ix4 (off : Fin 4 → ℕ) (inb) (a : Fin n0) (b : Fin n1) (c : Fin n2) (d : Fin n3) (A : Fin m0) (B : Fin m1) (C : Fin m2) (D : Fin m3)
    (hA : A.val = off 0 + a.val) (hB : B.val = off 1 + b.val) (hC : C.val = off 2 + c.val) (hD : D.val = off 3 + d.val) :
    (Rect.unit (s := ⟨4, ![m0, m1, m2, m3]⟩) off ![n0, n1, n2, n3] inb).emb (ix4 a b c d) = ix4 A B C D := by
  funext x
  apply Fin.ext
  refine (ValueKit.rect_emb_unit_val off _ inb _ x).trans ?_
  fin_cases x
  exacts [hA.symm, hB.symm, hC.symm, hD.symm]

variable {e : EltTy}

theorem read_ix2 {m : Memref sig .tc .vmem ⟨2, ![m0, m1]⟩ e} (hm : m.IsWhole) (X : Vec Ideal ⟨2, ![m0, m1]⟩ e) (off : Fin 2 → ℕ) (inb)
    (a : Fin n0) (b : Fin n1) (A : Fin m0) (B : Fin m1) (hA : A.val = off 0 + a.val) (hB : B.val = off 1 + b.val) :
    View.readAt (Elt Ideal) m.view (Rect.unit (s := ⟨2, ![m0, m1]⟩) off ![n0, n1] inb).toLoadRect (hm.unread X) (ix2 a b) = X (ix2 A B) :=
  (hm.readAt_unread X _ _).trans (congrArg X (emb_ix2 off inb a b A B hA hB))

theorem read_ix3 {m : Memref sig .tc .vmem ⟨3, ![m0, m1, m2]⟩ e} (hm : m.IsWhole) (X : Vec Ideal ⟨3, ![m0, m1, m2]⟩ e) (off : Fin 3 → ℕ) (inb)
    (a : Fin n0) (b : Fin n1) (c : Fin n2) (A : Fin m0) (B : Fin m1) (C : Fin m2)
    (hA : A.val = off 0 + a.val) (hB : B.val = off 1 + b.val) (hC : C.val = off 2 + c.val) :
    View.readAt (Elt Ideal) m.view (Rect.unit (s := ⟨3, ![m0, m1, m2]⟩) off ![n0, n1, n2] inb).toLoadRect (hm.unread X) (ix3 a b c) = X (ix3 A B C) :=
  (hm.readAt_unread X _ _).trans (congrArg X (emb_ix3 off inb a b c A B C hA hB hC))

/-- A function that agrees with a list of pieces where it places them is what the pieces leave where one of them lies. -/
theorem canon_of_map {S : Shape} {e : EltTy} {n : ℕ} (P : Fin n → View.Piece (Elt Ideal) S e) (G : S.Idx → Elt Ideal e)
    (hG : ∀ i x, (P i).2 x = G ((P i).1.emb x)) (i : Fin n) (x : (P i).1.shape.Idx) :
    View.canon ((List.finRange n).reverse.map P) ((P i).1.emb x) = G ((P i).1.emb x) := by
  refine View.canon_apply_of_pieces G _ ?_ _ ⟨P i, List.mem_map_of_mem (List.mem_reverse.2 (List.mem_finRange i)), ?_⟩
  · intro pc hpc x
    obtain ⟨i, -, rfl⟩ := List.mem_map.1 hpc
    exact hG i x
  · exact (P i).1.idx_mem x
end

/-- Group `i`'s multiplier of block `b` and output channel `l`. -/
def gVal (x3 : Vec Ideal S12x14x512 .i8) (x4 : Vec Ideal S14x512 .f16) (i : Fin 16) (b : Fin 14) (l : Fin 512) : EReal :=
  x4 (ix2 b l) * (((scWord (x3 (ix3 ⟨i.val % 8, by omega⟩ b l)) (x3 (ix3 ⟨8 + i.val % 4, by omega⟩ b l))
    (BitVec.ofNat 32 (4 * (i.val / 8))) (BitVec.ofNat 32 (2 * (i.val / 4)))).toInt : ℝ) : EReal)

/-- Weight `K` of output channel `l`. -/
def wVal (x1 : Vec Ideal S14x64x512 .i8) (x2 : Vec Ideal S14x32x512 .i8) (x3 : Vec Ideal S12x14x512 .i8) (x4 : Vec Ideal S14x512 .f16)
    (K : Fin 3584) (l : Fin 512) : EReal :=
  (((qInt (x1 (ix3 ⟨K.val / 256, by omega⟩ ⟨32 * (K.val / 128 % 2) + K.val % 32, by omega⟩ l))
      (x2 (ix3 ⟨K.val / 256, by omega⟩ ⟨K.val % 32, by omega⟩ l)) (K.val / 32 % 4) (4 * (K.val / 128 % 2) + K.val / 32 % 4) : ℤ) : ℝ) : EReal)
    * gVal x3 x4 ⟨K.val / 16 % 16, by omega⟩ ⟨K.val / 256, by omega⟩ l

variable {arg2 : Memref sig .tc .vmem S1024x2x3584 .bf16} (harg2 : arg2.IsWhole) {arg3 : Memref sig .tc .vmem S14x64x512 .i8} (harg3 : arg3.IsWhole) {arg4 : Memref sig .tc .vmem S14x32x512 .i8} (harg4 : arg4.IsWhole) {arg5 : Memref sig .tc .vmem S12x14x512 .i8} (harg5 : arg5.IsWhole) {arg6 : Memref sig .tc .vmem S14x512 .f16} (harg6 : arg6.IsWhole) (arg8 : Memref sig .tc .vmem S1x1792x2x512 .bf16) (arg9 : Memref sig .tc .vmem S16x16x2x512 .bf16)
  (x0 : Vec Ideal S1024x2x3584 .bf16) (x1 : Vec Ideal S14x64x512 .i8) (x2 : Vec Ideal S14x32x512 .i8) (x3 : Vec Ideal S12x14x512 .i8) (x4 : Vec Ideal S14x512 .f16)

theorem canon_g (i : Fin 16) (b : Fin 14) (p : Fin 2) (l : Fin 512) :
    View.canon (gPieces (F := Ideal) arg5 harg5 arg6 harg6 x3 x4) (ix4 i ⟨b.val, by omega⟩ p l) = gVal x3 x4 i b l := by
  let G : S16x16x2x512.Idx → Elt Ideal .bf16 := fun y =>
    if h : (y 1 : Fin 16).val < 14 then gVal x3 x4 (y 0) ⟨(y 1 : Fin 16).val, h⟩ (y 3) else (0 : EReal)
  have place (i : Fin 16) (b : Fin 14) (p : Fin 2) (l : Fin 512) :
      (gPiece (F := Ideal) arg5 harg5 arg6 harg6 x3 x4 i).1.emb (ix4 0 b p l) = ix4 i ⟨b.val, by omega⟩ p l :=
    emb_ix4 _ (inb_g i) 0 b p l _ _ _ _ (by simp) (by simp) (by simp) (by simp)
  have hG (i : Fin 16) (x : (gPiece (F := Ideal) arg5 harg5 arg6 harg6 x3 x4 i).1.shape.Idx) :
      (gPiece (F := Ideal) arg5 harg5 arg6 harg6 x3 x4 i).2 x = G ((gPiece (F := Ideal) arg5 harg5 arg6 harg6 x3 x4 i).1.emb x) := by
    obtain ⟨a, b, p, l, rfl⟩ : ∃ (a : Fin 1) (r : Fin 14) (p : Fin 2) (l : Fin 512), x = ix4 a r p l := ⟨_, _, _, _, eq_ix4 x⟩
    obtain rfl : a = 0 := Subsingleton.elim _ _
    rw [place]
    refine (gPay_apply _ _ _ _ _ b p l).trans ?_
    rw [read_ix3 harg5 x3 _ _ 0 b l ⟨i.val % 8, by omega⟩ b l (by simp) (by simp) (by simp),
      read_ix3 harg5 x3 _ _ 0 b l ⟨8 + i.val % 4, by omega⟩ b l (by simp) (by simp) (by simp)]
    have hd : (extf .f32 (shapeCast S14x512 (View.readAt (Elt Ideal) arg6.view (Rect.unit (s := S14x512) ![0, 0] S14x512.size inb_S14x512_S14x512_0_0).toLoadRect (harg6.unread x4) : Vec Ideal S14x512 .f16) (by decide) : FVec Ideal S14x512 .f16) (by decide) : FVec Ideal S14x512 .f32) (ix2 b l) = x4 (ix2 b l) := by
      pointwise
      exact read_ix2 harg6 x4 _ _ b l b l (by simp) (by simp)
    rw [hd]
    simp [G, gVal]
  refine (congrArg _ (place i b p l).symm).trans ((canon_of_map _ G hG i _).trans ?_)
  rw [place]
  simp [G]

theorem canon_w (K : Fin 3584) (l : Fin 512) :
    View.canon (wPieces (F := Ideal) arg3 harg3 arg4 harg4 arg9 x1 x2 (gPieces (F := Ideal) arg5 harg5 arg6 harg6 x3 x4))
      (ix4 0 ⟨K.val / 2, by omega⟩ ⟨K.val % 2, by omega⟩ l) = wVal x1 x2 x3 x4 K l := by
  let P := wPiece (F := Ideal) arg3 harg3 arg4 harg4 arg9 x1 x2 (gPieces (F := Ideal) arg5 harg5 arg6 harg6 x3 x4)
  let G : S1x1792x2x512.Idx → Elt Ideal .bf16 := fun y =>
    wVal x1 x2 x3 x4 ⟨2 * (y 1 : Fin 1792).val + (y 2 : Fin 2).val, by have h1 : (y 1 : Fin 1792).val < 1792 := (y 1).isLt; have h2 : (y 2 : Fin 2).val < 2 := (y 2).isLt; omega⟩ (y 3)
  have place (n : Fin 224) (a : Fin 8) (p : Fin 2) (l : Fin 512) :
      (P n).1.emb (ix4 0 a p l) = ix4 0 ⟨8 * n.val + a.val, by omega⟩ p l :=
    emb_ix4 _ (inb_w n) 0 a p l _ _ _ _ (by simp) (by simp) (by simp) (by simp)
  have hG (n : Fin 224) (x : (P n).1.shape.Idx) : (P n).2 x = G ((P n).1.emb x) := by
    obtain ⟨z, a, p, l, rfl⟩ : ∃ (z : Fin 1) (a : Fin 8) (p : Fin 2) (l : Fin 512), x = ix4 z a p l := ⟨_, _, _, _, eq_ix4 x⟩
    obtain rfl : z = 0 := Subsingleton.elim _ _
    rw [place]
    have hr : View.readCov arg9.view (gPieces (F := Ideal) arg5 harg5 arg6 harg6 x3 x4)
        ((Rect.unit (s := S16x16x2x512) ![n.val % 16, n.val / 16, 0, 0] S1x1x2x512.size (inb_raw ⟨n.val % 16, by omega⟩ ⟨n.val / 16, by omega⟩)).toLoadRect) (ix4 0 0 p l)
        = gVal x3 x4 ⟨n.val % 16, by omega⟩ ⟨n.val / 16, by omega⟩ l := by
      rw [View.readCov_eq_canon']
      exact (congrArg _ (emb_ix4 _ (inb_raw ⟨n.val % 16, by omega⟩ ⟨n.val / 16, by omega⟩) 0 0 p l _ _ _ _ (by simp) (by simp) (by simp) (by simp))).trans
        (canon_g harg5 harg6 x3 x4 ⟨n.val % 16, by omega⟩ ⟨n.val / 16, by omega⟩ p l)
    refine (wPay_apply _ _ _ a p l).trans ((congrArg₂ (fun u v : EReal => u * v) (qTile_apply _ _ _ _ (by omega) (by omega) _ _) hr).trans ?_)
    rw [read_ix3 harg4 x2 _ _ 0 _ l ⟨n.val / 16, by omega⟩ ⟨16 * (n.val % 2) + (2 * a.val + p.val), by omega⟩ l (by simp) (by simp) (by simp),
      read_ix3 harg3 x1 _ _ 0 _ l ⟨n.val / 16, by omega⟩ ⟨32 * (n.val / 8 % 2) + (16 * (n.val % 2) + (2 * a.val + p.val)), by omega⟩ l (by simp) (by simp) (by simp)]
    simp only [G, wVal, ix4_1, ix4_2, ix4_3]
    have h1 : (2 * (8 * n.val + a.val) + p.val) / 256 = n.val / 16 := by omega
    have h2 : (2 * (8 * n.val + a.val) + p.val) / 128 % 2 = n.val / 8 % 2 := by omega
    have h3 : (2 * (8 * n.val + a.val) + p.val) / 32 % 4 = n.val / 2 % 4 := by omega
    have h4 : (2 * (8 * n.val + a.val) + p.val) % 32 = 16 * (n.val % 2) + (2 * a.val + p.val) := by omega
    have h5 : (2 * (8 * n.val + a.val) + p.val) / 16 % 16 = n.val % 16 := by omega
    simp only [h1, h2, h3, h4, h5]
  have hK : ix4 (0 : Fin 1) (⟨K.val / 2, by omega⟩ : Fin 1792) (⟨K.val % 2, by omega⟩ : Fin 2) l
      = (P ⟨K.val / 16, by omega⟩).1.emb (ix4 0 ⟨K.val / 2 % 8, by omega⟩ ⟨K.val % 2, by omega⟩ l) := by
    rw [place]
    congr 1
    exact Fin.ext (by simp; omega)
  refine (congrArg _ hK).trans ((canon_of_map P G hG _ _).trans ?_)
  rw [← hK]
  simp only [G, ix4_1, ix4_2, ix4_3]
  congr 1
  exact Fin.ext (by simp; omega)

theorem wMat_apply (raw : Vec Ideal S1x1792x2x512 .bf16) (K : Fin 3584) (l : Fin 512) :
    wMat (F := Ideal) raw (ix2 K l) = raw (ix4 0 ⟨K.val / 2, by omega⟩ ⟨K.val % 2, by omega⟩ l) := by
  rcases Nat.mod_two_eq_zero_or_one K.val with h | h
  · pointwise [wMat, h]
  · pointwise [wMat, h]

theorem yPay_apply (W : Vec Ideal S1x1792x2x512 .bf16) (raw : Vec Ideal S256x2x3584 .bf16) (r : Fin 512) (l : Fin 512) :
    yPay (F := Ideal) (wMat W) raw (ix2 r l)
      = ∑ K : Fin 3584, raw (ix3 ⟨r.val / 2, by omega⟩ ⟨r.val % 2, by omega⟩ K) * W (ix4 0 ⟨K.val / 2, by omega⟩ ⟨K.val % 2, by omega⟩ l) := by
  rcases Nat.mod_two_eq_zero_or_one r.val with h | h
  · pointwise [yPay, h, wMat_apply]
  · pointwise [yPay, h, wMat_apply]

/-- The product's block, at an index. -/
theorem canon_y (r : Fin 2048) (l : Fin 512) :
    View.canon (yPieces (F := Ideal) arg2 harg2 arg8 x0 (wPieces (F := Ideal) arg3 harg3 arg4 harg4 arg9 x1 x2 (gPieces (F := Ideal) arg5 harg5 arg6 harg6 x3 x4))) (ix2 r l)
      = ∑ K : Fin 3584, x0 (ix3 ⟨r.val / 2, by omega⟩ ⟨r.val % 2, by omega⟩ K) * wVal x1 x2 x3 x4 K l := by
  let P := yPiece (F := Ideal) arg2 harg2 arg8 x0 (wPieces (F := Ideal) arg3 harg3 arg4 harg4 arg9 x1 x2 (gPieces (F := Ideal) arg5 harg5 arg6 harg6 x3 x4))
  let G : S2048x512.Idx → Elt Ideal .bf16 := fun y =>
    ∑ K : Fin 3584, x0 (ix3 ⟨(y 0 : Fin 2048).val / 2, by have h1 : (y 0 : Fin 2048).val < 2048 := (y 0).isLt; omega⟩ ⟨(y 0 : Fin 2048).val % 2, by omega⟩ K) * wVal x1 x2 x3 x4 K (y 1)
  have place (n : Fin 4) (r : Fin 512) (l : Fin 512) : (P n).1.emb (ix2 r l) = ix2 ⟨512 * n.val + r.val, by omega⟩ l :=
    emb_ix2 _ (inb_y n) r l _ _ (by simp) (by simp)
  have hG (n : Fin 4) (x : (P n).1.shape.Idx) : (P n).2 x = G ((P n).1.emb x) := by
    obtain ⟨r, l, rfl⟩ : ∃ (r : Fin 512) (l : Fin 512), x = ix2 r l := ⟨_, _, eq_ix2 x⟩
    rw [place]
    refine (yPay_apply _ _ r l).trans ?_
    refine Finset.sum_congr rfl fun K _ => ?_
    refine congrArg₂ (fun u v : EReal => u * v) ?_ ?_
    · refine (read_ix3 harg2 x0 _ _ _ _ K ⟨(512 * n.val + r.val) / 2, by omega⟩ ⟨(512 * n.val + r.val) % 2, by omega⟩ K (by simp; omega) (by simp; omega) (by simp)).trans ?_
      rfl
    · rw [View.readCov_eq_canon']
      exact (congrArg _ (emb_ix4 _ _ 0 _ _ l _ _ _ _ (by simp) (by simp) (by simp) (by simp))).trans
        (canon_w harg3 harg4 harg5 harg6 arg9 x1 x2 x3 x4 K l)
  have hK : ix2 r l = (P ⟨r.val / 512, by omega⟩).1.emb (ix2 ⟨r.val % 512, by omega⟩ l) := by
    rw [place]
    congr 1
    exact Fin.ext (by simp; omega)
  refine (congrArg _ hK).trans ((canon_of_map P G hG _ _).trans ?_)
  rw [← hK]
  rfl

end Cert.Q3k

end
-- ==== Proof.Q3k.Value0.lean ====
/- The quantiser's three blocks at an index. -/
module

public import proofs.«01_k».proof.Proof.Q3k.Pieces0
public import proofs.«01_k».proof.Proof.Q3k.Spec
public import proofs.«01_k».proof.Proof.Q3k.Value1

@[expose] public section

set_option maxRecDepth 16384

noncomputable section

namespace Cert.Q3k

open Idealize.ShloMosaic Idealize.SL Idealize Cert.KernelIdeal Cert.KernelIdeal.Gen

theorem sqAdd_apply (acc : FVec Ideal S32x128 .f32) (x : Vec Ideal S32x128 .bf16) (r : Fin 32) (l : Fin 128) :
    sqAdd (F := Ideal) acc x (ix2 r l) = (acc (ix2 r l) : EReal) + x (ix2 r l) * x (ix2 r l) := by
  pointwise [sqAdd]

theorem sqSum_apply (x : Fin 28 → Vec Ideal S32x128 .bf16) (r : Fin 32) (l : Fin 128) :
    sqSum (F := Ideal) x (ix2 r l) = (∑ c, (x c (ix2 r l) : EReal) * x c (ix2 r l) : EReal) := by
  have h (L : List (Fin 28)) (acc : FVec Ideal S32x128 .f32) :
      L.foldl (fun acc c => sqAdd (F := Ideal) acc (x c)) acc (ix2 r l) = (acc (ix2 r l) : EReal) + (L.map fun c => (x c (ix2 r l) : EReal) * x c (ix2 r l)).sum := by
    induction L generalizing acc with
    | nil => simp
    | cons c L ih =>
      rw [List.foldl_cons, ih, sqAdd_apply, List.map_cons, List.sum_cons, add_assoc]
  refine (h _ _).trans ?_
  rw [← Fin.sum_univ_def]
  have h0 : (broadcast S32x128 (Scalar.ofBits (F := Ideal) .f32 0x00000000#32) : FVec Ideal S32x128 .f32) (ix2 r l) = (0 : EReal) := by pointwise
  exact (congrArg (fun u : EReal => u + _) h0).trans (zero_add _)

/-- Twenty-eight chunks of 128 lanes are the row. -/
theorem sum_chunks (f : Fin 3584 → EReal) : ∑ l : Fin 128, ∑ c : Fin 28, f ⟨128 * c.val + l.val, by omega⟩ = ∑ K, f K := by
  rw [Finset.sum_comm, ← Fintype.sum_prod_type' (f := fun (c : Fin 28) (l : Fin 128) => f ⟨128 * c.val + l.val, by omega⟩)]
  refine Fintype.sum_equiv (finProdFinEquiv : Fin 28 × Fin 128 ≃ Fin (28 * 128)) _ (fun K => f K) fun p => congrArg f (Fin.ext ?_)
  simp [finProdFinEquiv]
  omega

theorem scAdd_apply (prev : FVec Ideal S32x128 .f32) (b b' : Fin 14) (s : FVec Ideal S32x1 .f32) (r : Fin 32) :
    scAdd (F := Ideal) prev b' s (ix2 r ⟨b.val, by omega⟩) = if b = b' then s (ix2 r 0) else prev (ix2 r ⟨b.val, by omega⟩) := by
  pointwise [scAdd]
  have : (BitVec.ofNat 32 b.val = BitVec.ofNat 32 b'.val) ↔ b = b' := by revert b b'; decide
  by_cases hb : b = b'
  · simp [hb, IntOp.cmpi, Scalar.select]
  · have hb' := mt this.1 hb
    simp only [IntOp.cmpi, Scalar.select, beq_eq_false_iff_ne.2 hb', if_neg hb]
    exact if_neg (by decide)

theorem scSum_apply (s : Fin 14 → FVec Ideal S32x1 .f32) (r : Fin 32) (b : Fin 14) :
    scSum (F := Ideal) s (ix2 r ⟨b.val, by omega⟩) = s b (ix2 r 0) := by
  have h (L : List (Fin 14)) (prev : FVec Ideal S32x128 .f32) :
      L.foldl (fun prev b => scAdd (F := Ideal) prev b (s b)) prev (ix2 r ⟨b.val, by omega⟩) = if b ∈ L then s b (ix2 r 0) else prev (ix2 r ⟨b.val, by omega⟩) := by
    induction L generalizing prev with
    | nil => simp
    | cons c L ih =>
      rw [List.foldl_cons, ih, scAdd_apply]
      by_cases hb : b = c
      · subst hb; simp
      · simp [hb]
  pointwise [scSum]
  exact (h _ _).trans (if_pos (List.mem_finRange b))

/-- Row `r` of a block of rows. -/
def row0 (x0 : Vec Ideal S256x3584 .bf16) (r : Fin 256) : Fin 3584 → EReal := fun c => x0 (ix2 r c)
/-- The gains of a block. -/
def gain0 (x1 : Vec Ideal S1x3584 .f32) : Fin 3584 → EReal := fun c => x1 (ix2 0 c)

variable {arg1 : Memref sig .tc .vmem S256x3584 .bf16} (harg1 : arg1.IsWhole) {arg2 : Memref sig .tc .vmem S1x3584 .f32} (harg2 : arg2.IsWhole) (arg6 : Memref sig .tc .vmem S256x128 .f32)
  (x0 : Vec Ideal S256x3584 .bf16) (x1 : Vec Ideal S1x3584 .f32)

theorem rRd_apply (k : Fin 8) (r : Fin 32) : rRd (F := Ideal) arg1 harg1 x0 k (ix2 r 0) = rmsR (row0 x0 ⟨32 * k.val + r.val, by omega⟩) := by
  have h : (∑ l : Fin 128, (sqSum (F := Ideal) (fun c => View.readAt (Elt Ideal) arg1.view (Rect.unit (s := S256x3584) ![32 * k.val, 128 * c.val] S32x128.size (inb_sq k c)).toLoadRect (harg1.unread x0)) (ix2 r l) : EReal))
      = ∑ K, row0 x0 ⟨32 * k.val + r.val, by omega⟩ K * row0 x0 ⟨32 * k.val + r.val, by omega⟩ K := by
    rw [← sum_chunks]
    refine Finset.sum_congr rfl fun l _ => (sqSum_apply _ r l).trans (Finset.sum_congr rfl fun c _ => ?_)
    have := read_ix2 harg1 x0 _ (inb_sq k c) r l ⟨32 * k.val + r.val, by omega⟩ ⟨128 * c.val + l.val, by omega⟩ (by simp) (by simp)
    exact congrArg₂ (fun u v : EReal => u * v) this this
  rw [rRd]
  pointwise [rRow]
  rw [rmsR, ← h]

theorem xnRd_apply (k : Fin 8) (b : Fin 14) (r : Fin 32) (l : Fin 256) :
    xnRd (F := Ideal) arg1 harg1 arg2 harg2 x0 x1 k b (ix2 r l)
      = normed (row0 x0 ⟨32 * k.val + r.val, by omega⟩) (gain0 x1) ⟨256 * b.val + l.val, by omega⟩ := by
  rw [xnRd]
  pointwise [xnTile]
  rw [normed]
  refine congrArg₂ (fun u v : EReal => u * v) (congrArg₂ (fun u v : EReal => u * v) ?_ (rRd_apply harg1 x0 k r)) ?_
  · exact read_ix2 harg1 x0 _ (inb_blk k b) r l _ _ (by simp) (by simp)
  · exact read_ix2 harg2 x1 _ (inb_gain b) 0 l _ _ (by simp) (by simp)

theorem scaleT_apply (k : Fin 8) (b : Fin 14) (r : Fin 32) (l : Fin 1) :
    scaleT (F := Ideal) (xnRd arg1 harg1 arg2 harg2 x0 x1 k b) (ix2 r l) = scl (row0 x0 ⟨32 * k.val + r.val, by omega⟩) (gain0 x1) b := by
  pointwise [scaleT, amaxT]
  simp only [xnRd_apply]
  rfl

theorem codeT_apply (k : Fin 8) (b : Fin 14) (r : Fin 32) (l : Fin 256) :
    codeT (F := Ideal) (xnRd arg1 harg1 arg2 harg2 x0 x1 k b) (ix2 r l) = code (row0 x0 ⟨32 * k.val + r.val, by omega⟩) (gain0 x1) ⟨256 * b.val + l.val, by omega⟩ := by
  pointwise [codeT]
  rw [scaleT_apply, xnRd_apply, code]
  have : (⟨(256 * b.val + l.val) / 256, by omega⟩ : Fin 14) = b := Fin.ext (by simp; omega)
  rw [this]

theorem xqT_apply (k : Fin 8) (b : Fin 14) (r : Fin 32) (l : Fin 256) :
    xqT (F := Ideal) (xnRd arg1 harg1 arg2 harg2 x0 x1 k b) (ix2 r l) = xqv (row0 x0 ⟨32 * k.val + r.val, by omega⟩) (gain0 x1) ⟨256 * b.val + l.val, by omega⟩ := by
  pointwise [xqT]
  have : (⟨(256 * b.val + l.val) / 256, by omega⟩ : Fin 14) = b := Fin.ext (by simp; omega)
  rw [xqv, this]
  exact congrArg₂ (fun u v : EReal => u * v) (codeT_apply ..) (scaleT_apply ..)

theorem xqPay_apply (x : FVec Ideal S32x256 .f32) (a : Fin 16) (e : Fin 2) (l : Fin 256) :
    xqPay (F := Ideal) x (ix3 a e l) = xqT x (ix2 ⟨2 * a.val + e.val, by omega⟩ l) := by
  rcases Nat.mod_two_eq_zero_or_one e.val with h | h
  · pointwise [xqPay, h]
    exact congrArg (fun z => xqT x (ix2 z l)) (Fin.ext (by simp; omega))
  · pointwise [xqPay, h]
    exact congrArg (fun z => xqT x (ix2 z l)) (Fin.ext (by simp; omega))

/-- The codes the body leaves. -/
theorem canon_codes (r : Fin 256) (c : Fin 3584) :
    View.canon (codePieces (F := Ideal) arg1 harg1 arg2 harg2 x0 x1) (ix2 r c)
      = FloatOps.fptosi (F := Ideal) (φ := .f32) 8 (code (row0 x0 r) (gain0 x1) c) := by
  let P := codePiece (F := Ideal) arg1 harg1 arg2 harg2 x0 x1
  obtain ⟨T, hT⟩ : ∃ T : Fin 256 → Fin 3584 → BitVec 8, ∀ r c, FloatOps.fptosi (F := Ideal) (φ := .f32) 8 (code (row0 x0 r) (gain0 x1) c) = T r c := ⟨_, fun _ _ => rfl⟩
  let G : S256x3584.Idx → Elt Ideal .i8 := fun y => T (y 0) (y 1)
  have place (n : Fin 112) (a : Fin 32) (l : Fin 256) :
      (P n).1.emb (ix2 a l) = ix2 ⟨32 * (n.val / 14) + a.val, by omega⟩ ⟨256 * (n.val % 14) + l.val, by omega⟩ :=
    emb_ix2 _ (inb_blk ⟨n.val / 14, lt_k n⟩ ⟨n.val % 14, lt_b n⟩) a l _ _ (by simp) (by simp)
  have hG (n : Fin 112) (x : (P n).1.shape.Idx) : (P n).2 x = G ((P n).1.emb x) := by
    obtain ⟨a, l, rfl⟩ : ∃ (a : Fin 32) (l : Fin 256), x = ix2 a l := ⟨_, _, eq_ix2 x⟩
    rw [place]
    exact (congrArg (FloatOps.fptosi (F := Ideal) (φ := .f32) 8) (codeT_apply harg1 harg2 x0 x1 ⟨n.val / 14, lt_k n⟩ ⟨n.val % 14, lt_b n⟩ a l)).trans (hT _ _)
  have hK : ix2 r c = (P ⟨14 * (r.val / 32) + c.val / 256, by omega⟩).1.emb (ix2 ⟨r.val % 32, by omega⟩ ⟨c.val % 256, by omega⟩) := by
    rw [place]
    congr 1 <;> exact Fin.ext (by simp; omega)
  rw [hT]
  exact (congrArg _ hK).trans ((canon_of_map P G hG _ _).trans (congrArg G hK.symm))

/-- The quantised values the body leaves. -/
theorem canon_xq (r : Fin 256) (c : Fin 3584) :
    View.canon (xqPieces (F := Ideal) arg1 harg1 arg2 harg2 x0 x1) (ix3 ⟨r.val / 2, by omega⟩ ⟨r.val % 2, by omega⟩ c)
      = xqv (row0 x0 r) (gain0 x1) c := by
  let P := xqPiece (F := Ideal) arg1 harg1 arg2 harg2 x0 x1
  let G : S128x2x3584.Idx → Elt Ideal .bf16 := fun y =>
    xqv (row0 x0 ⟨2 * (y 0 : Fin 128).val + (y 1 : Fin 2).val, by have h1 : (y 0 : Fin 128).val < 128 := (y 0).isLt; have h2 : (y 1 : Fin 2).val < 2 := (y 1).isLt; omega⟩) (gain0 x1) (y 2)
  have place (n : Fin 112) (a : Fin 16) (e : Fin 2) (l : Fin 256) :
      (P n).1.emb (ix3 a e l) = ix3 ⟨16 * (n.val / 14) + a.val, by omega⟩ e ⟨256 * (n.val % 14) + l.val, by omega⟩ :=
    emb_ix3 _ (inb_xq ⟨n.val / 14, lt_k n⟩ ⟨n.val % 14, lt_b n⟩) a e l _ _ _ (by simp) (by simp) (by simp)
  have hG (n : Fin 112) (x : (P n).1.shape.Idx) : (P n).2 x = G ((P n).1.emb x) := by
    obtain ⟨a, e, l, rfl⟩ : ∃ (a : Fin 16) (e : Fin 2) (l : Fin 256), x = ix3 a e l := ⟨_, _, _, eq_ix3 x⟩
    rw [place]
    refine (xqPay_apply _ a e l).trans ((xqT_apply harg1 harg2 x0 x1 ⟨n.val / 14, lt_k n⟩ ⟨n.val % 14, lt_b n⟩ _ l).trans ?_)
    exact congrArg (fun z => xqv (row0 x0 z) (gain0 x1) _) (Fin.ext (by simp; omega))
  have hK : ix3 (⟨r.val / 2, by omega⟩ : Fin 128) (⟨r.val % 2, by omega⟩ : Fin 2) c
      = (P ⟨14 * (r.val / 32) + c.val / 256, by omega⟩).1.emb (ix3 ⟨r.val / 2 % 16, by omega⟩ ⟨r.val % 2, by omega⟩ ⟨c.val % 256, by omega⟩) := by
    rw [place]
    congr 1 <;> exact Fin.ext (by simp; omega)
  refine (congrArg _ hK).trans ((canon_of_map P G hG _ _).trans ((congrArg G hK.symm).trans ?_))
  exact congrArg (fun z => xqv (row0 x0 z) (gain0 x1) c) (Fin.ext (by simp; omega))

/-- The scales of thirty-two rows at an index. -/
def scAt (k : Fin 8) (a : Fin 32) (l : Fin 128) : EReal := scSum (F := Ideal) (fun b => scaleT (xnRd arg1 harg1 arg2 harg2 x0 x1 k b)) (ix2 a l)

theorem scAt_eq (k : Fin 8) (a : Fin 32) (b : Fin 14) : scAt harg1 harg2 x0 x1 k a ⟨b.val, by omega⟩ = scl (row0 x0 ⟨32 * k.val + a.val, by omega⟩) (gain0 x1) b :=
  (scSum_apply _ a b).trans (scaleT_apply harg1 harg2 x0 x1 k b a 0)

theorem canon_sc (r : Fin 256) (b : Fin 14) :
    View.canon (scPieces (F := Ideal) arg1 harg1 arg2 harg2 x0 x1) (ix2 r (⟨b.val, by omega⟩ : Fin 128)) = scl (row0 x0 r) (gain0 x1) b := by
  have hT (k : Fin 8) (a : Fin 32) (l : Fin 128) : (scPiece (F := Ideal) arg1 harg1 arg2 harg2 x0 x1 k).2 (ix2 a l) = scAt harg1 harg2 x0 x1 k a l := rfl
  have hv := scAt_eq harg1 harg2 x0 x1 ⟨r.val / 32, by omega⟩ ⟨r.val % 32, by omega⟩ b
  generalize scAt harg1 harg2 x0 x1 = T at hT hv
  let G : S256x128.Idx → Elt Ideal .f32 := fun y =>
    T ⟨(y 0 : Fin 256).val / 32, by have h1 : (y 0 : Fin 256).val < 256 := (y 0).isLt; omega⟩ ⟨(y 0 : Fin 256).val % 32, by omega⟩ (y 1)
  have place (k : Fin 8) (a : Fin 32) (l : Fin 128) : (scPiece (F := Ideal) arg1 harg1 arg2 harg2 x0 x1 k).1.emb (ix2 a l) = ix2 ⟨32 * k.val + a.val, by omega⟩ l :=
    emb_ix2 _ (inb_sct k) a l _ _ (by simp) (by simp)
  have hG (k : Fin 8) (x : (scPiece (F := Ideal) arg1 harg1 arg2 harg2 x0 x1 k).1.shape.Idx) :
      (scPiece (F := Ideal) arg1 harg1 arg2 harg2 x0 x1 k).2 x = G ((scPiece (F := Ideal) arg1 harg1 arg2 harg2 x0 x1 k).1.emb x) := by
    obtain ⟨a, l, rfl⟩ : ∃ (a : Fin 32) (l : Fin 128), x = ix2 a l := ⟨_, _, eq_ix2 x⟩
    rw [place, hT]
    have h1 : (⟨(32 * k.val + a.val) / 32, by omega⟩ : Fin 8) = k := Fin.ext (by simp; omega)
    have h2 : (⟨(32 * k.val + a.val) % 32, by omega⟩ : Fin 32) = a := Fin.ext (by show (32 * k.val + a.val) % 32 = a.val; omega)
    exact (congrArg₂ (fun u v => T u v l) h1 h2).symm
  have hK : ix2 r (⟨b.val, by omega⟩ : Fin 128) = (scPiece (F := Ideal) arg1 harg1 arg2 harg2 x0 x1 ⟨r.val / 32, by omega⟩).1.emb (ix2 (⟨r.val % 32, by omega⟩ : Fin 32) (⟨b.val, by omega⟩ : Fin 128)) := by
    rw [place]
    congr 1; exact Fin.ext (by simp; omega)
  refine (congrArg _ hK).trans ((canon_of_map _ G hG _ _).trans ((congrArg G hK.symm).trans ?_))
  refine hv.trans ?_
  exact congrArg (fun z => scl (row0 x0 z) (gain0 x1) b) (Fin.ext (by simp; omega))

/-- The scales the body stores. -/
theorem scales_apply (b : Fin 14) (r : Fin 256) :
    k0_pay6 (F := Ideal) (View.readCov arg6.view (scPieces (F := Ideal) arg1 harg1 arg2 harg2 x0 x1)
      (Rect.unit (s := S256x128) ![0, 0] S256x128.size inb_S256x128_S256x128_0_0).toLoadRect) (ix2 b r) = scl (row0 x0 r) (gain0 x1) b := by
  pointwise [k0_pay6]
  rw [View.readCov_eq_canon']
  exact (congrArg _ (emb_ix2 _ inb_S256x128_S256x128_0_0 r ⟨b.val, by omega⟩ r ⟨b.val, by omega⟩ (by simp) (by simp))).trans (canon_sc harg1 harg2 x0 x1 r b)

end Cert.Q3k

end
-- ==== Proof.Q3k.Arr0.lean ====
/- The quantiser's arrays after its pipeline: every row's codes, scales and quantised values. -/
module

public import proofs.«01_k».proof.Proof.Q3k.Value0
public import Idealize.ShloMosaic.Lib.Pipeline.ValueKit

@[expose] public section

set_option maxRecDepth 16384

noncomputable section

namespace Cert.Q3k

open Idealize.ShloMosaic Idealize.SL Idealize Cert.KernelIdeal Cert.KernelIdeal.Gen

variable (V : (c : Dev nD) → (b : Ref sig .tc) → Buf (Elt Ideal) ((c.tc : Thread nD τ).loc b))

/-- Row `n` of the pipeline's input. -/
def rowV (c : Dev nD) (n : Fin 8192) : Fin 3584 → EReal := fun k => (V c main_v0 : Vec Ideal S8192x3584 .bf16) (ix2 n k)
/-- The gains the pipeline reads. -/
def gainV (c : Dev nD) : Fin 3584 → EReal := fun k => (V c main_v1 : Vec Ideal S1x3584 .f32) (ix2 0 k)

theorem i0_0 : ∀ t : Fin cfg0.N, win0_0.index t = ![t.val, 0] := by decide +kernel
theorem i0_1 : ∀ t : Fin cfg0.N, win0_1.index t = ![0, 0] := by decide +kernel
theorem i0_2 : ∀ t : Fin cfg0.N, win0_2.index t = ![t.val, 0] := by decide +kernel
theorem i0_3 : ∀ t : Fin cfg0.N, win0_3.index t = ![0, t.val] := by decide +kernel
theorem i0_4 : ∀ t : Fin cfg0.N, win0_4.index t = ![t.val, 0, 0] := by decide +kernel
theorem lt0 (t : Fin cfg0.N) : t.val < 32 := t.isLt

theorem row_blk (c : Dev nD) (t : Fin cfg0.N) (r : Fin 256) : row0 (iblk0 V c 0 t) r = rowV V c ⟨256 * t.val + r.val, by have := lt0 t; omega⟩ := by
  funext k
  unfold row0 rowV
  blk_simp [iblk0]
  refine congrArg (V c main_v0 : Vec Ideal S8192x3584 .bf16) (funext fun a => Fin.ext ?_)
  fin_cases a <;> blk_simp [i0_0] <;> simp
  omega

theorem gain_blk (c : Dev nD) (t : Fin cfg0.N) : gain0 (iblk0 V c 1 t) = gainV V c := by
  funext k
  unfold gain0 gainV
  blk_simp [iblk0]
  refine congrArg (V c main_v1 : Vec Ideal S1x3584 .f32) (funext fun a => Fin.ext ?_)
  fin_cases a <;> blk_simp [i0_1] <;> simp

theorem out0_codes (c : Dev nD) (t : Fin cfg0.N) (r : Fin 256) (k : Fin 3584) :
    (outsAt0 V c t).1 (ix2 r k) = FloatOps.fptosi (F := Ideal) (φ := .f32) 8 (code (rowV V c ⟨256 * t.val + r.val, by have := lt0 t; omega⟩) (gainV V c) k) := by
  rw [← row_blk, ← gain_blk V c t]
  unfold outsAt0 out0_A_2
  rw [View.read_writes_junk_eq_canon, codePieces_eq]
  exact canon_codes ..

theorem out0_scales (c : Dev nD) (t : Fin cfg0.N) (b : Fin 14) (r : Fin 256) :
    (outsAt0 V c t).2.1 (ix2 b r) = scl (rowV V c ⟨256 * t.val + r.val, by have := lt0 t; omega⟩) (gainV V c) b := by
  rw [← row_blk, ← gain_blk V c t]
  unfold outsAt0
  dsimp only
  unfold out0_A_3
  rw [View.read_writes_junk_eq_canon, scalesPiece_eq, View.canon_unit_zero (by decide)]
  exact scales_apply ..

theorem out0_xq (c : Dev nD) (t : Fin cfg0.N) (r : Fin 256) (k : Fin 3584) :
    (outsAt0 V c t).2.2 (ix3 ⟨r.val / 2, by omega⟩ ⟨r.val % 2, by omega⟩ k) = xqv (rowV V c ⟨256 * t.val + r.val, by have := lt0 t; omega⟩) (gainV V c) k := by
  rw [← row_blk, ← gain_blk V c t]
  unfold outsAt0
  dsimp only
  unfold out0_A_4
  rw [View.read_writes_junk_eq_canon, xqPieces_eq]
  exact canon_xq (hs0_0 t) (hs0_1 t) (iblk0 V c 0 t) (iblk0 V c 1 t) r k

theorem arr0_codes (c : Dev nD) :
    (dat0 V c).arrAt 2 cfg0.N = fun y : S8192x3584.Idx => FloatOps.fptosi (F := Ideal) (φ := .f32) 8 (code (rowV V c (y 0)) (gainV V c) (y 1)) := by
  refine (dat0 V c).arrAt_eq_of_covers 2 _ (by decide +kernel) fun t hf y => ?_
  blk_simp
  rw [after0_2]
  obtain ⟨r, k, rfl⟩ : ∃ (r : Fin 256) (k : Fin 3584), y = ix2 r k := ⟨y 0, y 1, eq_ix2 y⟩
  refine (out0_codes V c t r k).trans ?_
  congr 2
  · refine congrArg (rowV V c) (Fin.ext ?_)
    blk_simp [i0_2]
    simp
    omega
  · refine (Fin.ext ?_)
    blk_simp [i0_2]

theorem arr0_scales (c : Dev nD) :
    (dat0 V c).arrAt 3 cfg0.N = fun y : S14x8192.Idx => scl (rowV V c (y 1)) (gainV V c) (y 0) := by
  refine (dat0 V c).arrAt_eq_of_covers 3 _ (by decide +kernel) fun t hf y => ?_
  blk_simp
  rw [after0_3]
  obtain ⟨b, r, rfl⟩ : ∃ (b : Fin 14) (r : Fin 256), y = ix2 b r := ⟨y 0, y 1, eq_ix2 y⟩
  refine (out0_scales V c t b r).trans ?_
  congr 1
  · refine congrArg (rowV V c) (Fin.ext ?_)
    blk_simp [i0_3]
    simp
    omega
  · refine (Fin.ext ?_)
    blk_simp [i0_3]

theorem arr0_xq (c : Dev nD) :
    (dat0 V c).arrAt 4 cfg0.N = fun y : S4096x2x3584.Idx => xqv (rowV V c ⟨2 * (y 0).val + (y 1).val, by have := (y 0).isLt; have := (y 1).isLt; simp at *; omega⟩) (gainV V c) (y 2) := by
  refine (dat0 V c).arrAt_eq_of_covers 4 _ (by decide +kernel) fun t hf y => ?_
  blk_simp
  rw [after0_4]
  obtain ⟨p, q, k, rfl⟩ : ∃ (p : Fin 128) (q : Fin 2) (k : Fin 3584), y = ix3 p q k := ⟨y 0, y 1, y 2, eq_ix3 y⟩
  have h := out0_xq V c t ⟨2 * p.val + q.val, by omega⟩ k
  have e1 : (⟨(2 * p.val + q.val) / 2, by omega⟩ : Fin 128) = p := Fin.ext (by show (2 * p.val + q.val) / 2 = _; omega)
  have e2 : (⟨(2 * p.val + q.val) % 2, by omega⟩ : Fin 2) = q := Fin.ext (by show (2 * p.val + q.val) % 2 = _; omega)
  simp only [e1, e2] at h
  refine h.trans ?_
  congr 1
  · refine congrArg (rowV V c) (Fin.ext ?_)
    blk_simp [i0_4]
    simp
    omega
  · refine (Fin.ext ?_)
    blk_simp [i0_4]

end Cert.Q3k

end
-- ==== Proof.Q3k.Arr1.lean ====
/- The matmul's array after its pipeline: every row of activations against every dequantised output row. -/
module

public import proofs.«01_k».proof.Proof.Q3k.Value1
public import Idealize.ShloMosaic.Lib.Pipeline.ValueKit
public import Idealize.ShloMosaic.Lib.Pipeline.Covers

@[expose] public section

set_option maxRecDepth 16384

noncomputable section

namespace Cert.Q3k

open Idealize.ShloMosaic Idealize.SL Idealize Cert.KernelIdeal Cert.KernelIdeal.Gen

/-- Super-block `b`'s gain in group `i`, output row `n`: the f16 super-scale times the 6-bit scale less 32. -/
def gArr (sc : Vec Ideal S12x14x18944 .i8) (d : Vec Ideal S14x18944 .f16) (i : Fin 16) (b : Fin 14) (n : Fin 18944) : EReal :=
  (d (ix2 b n) : EReal) * (((scWord (sc (ix3 ⟨i.val % 8, by omega⟩ b n)) (sc (ix3 ⟨8 + i.val % 4, by omega⟩ b n)) (BitVec.ofNat 32 (4 * (i.val / 8))) (BitVec.ofNat 32 (2 * (i.val / 4)))).toInt : ℝ) : EReal)

/-- The weight at input `K`, output row `n`. -/
def wArr (qs : Vec Ideal S14x64x18944 .i8) (hm : Vec Ideal S14x32x18944 .i8) (sc : Vec Ideal S12x14x18944 .i8) (d : Vec Ideal S14x18944 .f16) (K : Fin 3584) (n : Fin 18944) : EReal :=
  (((qInt (qs (ix3 ⟨K.val / 256, by omega⟩ ⟨32 * (K.val / 128 % 2) + K.val % 32, by omega⟩ n))
        (hm (ix3 ⟨K.val / 256, by omega⟩ ⟨K.val % 32, by omega⟩ n)) (K.val / 32 % 4) (4 * (K.val / 128 % 2) + K.val / 32 % 4) : ℤ) : ℝ) : EReal)
    * gArr sc d ⟨K.val / 16 % 16, by omega⟩ ⟨K.val / 256, by omega⟩ n

/-- Output row `r` (a row of activations), column `n`. -/
def yArr (X : Vec Ideal S4096x2x3584 .bf16) (qs : Vec Ideal S14x64x18944 .i8) (hm : Vec Ideal S14x32x18944 .i8) (sc : Vec Ideal S12x14x18944 .i8) (d : Vec Ideal S14x18944 .f16)
    (r : Fin 8192) (n : Fin 18944) : EReal :=
  ∑ K : Fin 3584, (X (ix3 ⟨r.val / 2, by omega⟩ ⟨r.val % 2, by omega⟩ K) : EReal) * wArr qs hm sc d K n

variable (V : (c : Dev nD) → (b : Ref sig .tc) → Buf (Elt Ideal) ((c.tc : Thread nD τ).loc b))

theorem i1_0 : ∀ t : Fin cfg1.N, win1_0.index t = ![t.val / 37, 0, 0] := by decide +kernel
theorem i1_1 : ∀ t : Fin cfg1.N, win1_1.index t = ![0, 0, t.val % 37] := by decide +kernel
theorem i1_2 : ∀ t : Fin cfg1.N, win1_2.index t = ![0, 0, t.val % 37] := by decide +kernel
theorem i1_3 : ∀ t : Fin cfg1.N, win1_3.index t = ![0, 0, t.val % 37] := by decide +kernel
theorem i1_4 : ∀ t : Fin cfg1.N, win1_4.index t = ![0, t.val % 37] := by decide +kernel
theorem i1_5 : ∀ t : Fin cfg1.N, win1_5.index t = ![t.val / 37, t.val % 37] := by decide +kernel
theorem lt1 (t : Fin cfg1.N) : t.val < 148 := t.isLt

theorem blk1_0 (c : Dev nD) (t : Fin cfg1.N) (p : Fin 1024) (q : Fin 2) (k : Fin 3584) :
    (iblk1 V c 0 t : Vec Ideal S1024x2x3584 .bf16) (ix3 p q k) = (V c main_v2_2 : Vec Ideal S4096x2x3584 .bf16) (ix3 ⟨1024 * (t.val / 37) + p.val, by have := lt1 t; omega⟩ q k) := by
  blk_simp [iblk1]
  refine congrArg (V c main_v2_2 : Vec Ideal S4096x2x3584 .bf16) (funext fun a => Fin.ext ?_)
  fin_cases a <;> blk_simp [i1_0] <;> simp
  omega
theorem blk1_1 (c : Dev nD) (t : Fin cfg1.N) (b : Fin 14) (q : Fin 64) (l : Fin 512) :
    (iblk1 V c 1 t : Vec Ideal S14x64x512 .i8) (ix3 b q l) = (V c main_v3 : Vec Ideal S14x64x18944 .i8) (ix3 b q ⟨512 * (t.val % 37) + l.val, by omega⟩) := by
  blk_simp [iblk1]
  refine congrArg (V c main_v3 : Vec Ideal S14x64x18944 .i8) (funext fun a => Fin.ext ?_)
  fin_cases a <;> blk_simp [i1_1] <;> simp
  omega
theorem blk1_2 (c : Dev nD) (t : Fin cfg1.N) (b : Fin 14) (q : Fin 32) (l : Fin 512) :
    (iblk1 V c 2 t : Vec Ideal S14x32x512 .i8) (ix3 b q l) = (V c main_v4 : Vec Ideal S14x32x18944 .i8) (ix3 b q ⟨512 * (t.val % 37) + l.val, by omega⟩) := by
  blk_simp [iblk1]
  refine congrArg (V c main_v4 : Vec Ideal S14x32x18944 .i8) (funext fun a => Fin.ext ?_)
  fin_cases a <;> blk_simp [i1_2] <;> simp
  omega
theorem blk1_3 (c : Dev nD) (t : Fin cfg1.N) (q : Fin 12) (b : Fin 14) (l : Fin 512) :
    (iblk1 V c 3 t : Vec Ideal S12x14x512 .i8) (ix3 q b l) = (V c main_v5 : Vec Ideal S12x14x18944 .i8) (ix3 q b ⟨512 * (t.val % 37) + l.val, by omega⟩) := by
  blk_simp [iblk1]
  refine congrArg (V c main_v5 : Vec Ideal S12x14x18944 .i8) (funext fun a => Fin.ext ?_)
  fin_cases a <;> blk_simp [i1_3] <;> simp
  omega
theorem blk1_4 (c : Dev nD) (t : Fin cfg1.N) (b : Fin 14) (l : Fin 512) :
    (iblk1 V c 4 t : Vec Ideal S14x512 .f16) (ix2 b l) = (V c main_v6 : Vec Ideal S14x18944 .f16) (ix2 b ⟨512 * (t.val % 37) + l.val, by omega⟩) := by
  blk_simp [iblk1]
  refine congrArg (V c main_v6 : Vec Ideal S14x18944 .f16) (funext fun a => Fin.ext ?_)
  fin_cases a <;> blk_simp [i1_4] <;> simp
  omega

theorem wVal_blk (c : Dev nD) (t : Fin cfg1.N) (K : Fin 3584) (l : Fin 512) :
    wVal (iblk1 V c 1 t) (iblk1 V c 2 t) (iblk1 V c 3 t) (iblk1 V c 4 t) K l
      = wArr (V c main_v3) (V c main_v4) (V c main_v5) (V c main_v6) K ⟨512 * (t.val % 37) + l.val, by omega⟩ := by
  unfold wVal wArr gVal gArr
  simp only [blk1_1, blk1_2, blk1_3, blk1_4]

theorem out1_y (c : Dev nD) (t : Fin cfg1.N) (r : Fin 2048) (l : Fin 512) :
    outsAt1 V c t (ix2 r l) = yArr (V c main_v2_2) (V c main_v3) (V c main_v4) (V c main_v5) (V c main_v6) ⟨2048 * (t.val / 37) + r.val, by have := lt1 t; omega⟩ ⟨512 * (t.val % 37) + l.val, by omega⟩ := by
  unfold outsAt1
  unfold out1_A_5
  rw [View.read_writes_junk_eq_canon, yPieces_eq]
  refine (canon_y ..).trans ?_
  unfold yArr
  refine Finset.sum_congr rfl fun K _ => ?_
  rw [wVal_blk]
  refine congrArg (fun u : EReal => u * _) ((blk1_0 V c t _ _ K).trans (congrArg (V c main_v2_2 : Vec Ideal S4096x2x3584 .bf16) ?_))
  refine congrArg₂ (fun p q => ix3 p q K) (Fin.ext ?_) (Fin.ext ?_)
  · show 1024 * (t.val / 37) + r.val / 2 = (2048 * (t.val / 37) + r.val) / 2
    omega
  · show r.val % 2 = (2048 * (t.val / 37) + r.val) % 2
    omega

theorem arr1_y (c : Dev nD) :
    (dat1 V c).arrAt 5 cfg1.N = fun y : S8192x18944.Idx => yArr (V c main_v2_2) (V c main_v3) (V c main_v4) (V c main_v5) (V c main_v6) (y 0) (y 1) := by
  refine (dat1 V c).arrAt_eq_of_covers 5 _ (by decide +kernel) fun t hf y => ?_
  blk_simp
  rw [after1_5]
  obtain ⟨r, l, rfl⟩ : ∃ (r : Fin 2048) (l : Fin 512), y = ix2 r l := ⟨y 0, y 1, eq_ix2 y⟩
  refine (out1_y V c t r l).trans ?_
  refine congrArg₂ (yArr (V c main_v2_2) (V c main_v3) (V c main_v4) (V c main_v5) (V c main_v6)) (Fin.ext ?_) (Fin.ext ?_)
  · blk_simp [i1_5]
    simp
    omega
  · blk_simp [i1_5]
    simp
    omega

end Cert.Q3k

end
-- ==== Proof.Q3k.KRun.lean ====
/- The kernel program's three results, at an index, over its arguments. -/
module

public import proofs.«01_k».proof.Proof.Q3k.Arr0
public import proofs.«01_k».proof.Proof.Q3k.Arr1
public import Idealize.ShloMosaic.Lib.StableHlo.ReadAt

@[expose] public section

set_option maxRecDepth 16384

noncomputable section

namespace Cert.Q3k

open Idealize.ShloMosaic Idealize.SL Idealize Cert.KernelIdeal Cert.KernelIdeal.Gen

section Values

variable (x : Vec Ideal S2x4096x3584 .bf16) (g : Vec Ideal S3584 .f32)
  (hm : Vec Ideal S18944x14x32 .i8) (qs : Vec Ideal S18944x14x64 .i8) (sc : Vec Ideal S18944x14x12 .i8) (d : Vec Ideal S18944x14 .f16)

/-- Row `(b, s)` of the activations. -/
def xRow (b : Fin 2) (s : Fin 4096) : Fin 3584 → EReal := fun k => x (ix3 b s k)
/-- The norm's gains. -/
def gRow : Fin 3584 → EReal := fun k => g (ix1 k)
/-- The 6-bit scale less 32 of output row `n`, super-block `b`, group `i`, as a word. -/
def scOut (n : Fin 18944) (b : Fin 14) (i : Fin 16) : BitVec 32 :=
  scWord (sc (ix3 n b ⟨i.val % 8, by omega⟩)) (sc (ix3 n b ⟨8 + i.val % 4, by omega⟩)) (BitVec.ofNat 32 (4 * (i.val / 8))) (BitVec.ofNat 32 (2 * (i.val / 4)))
/-- The gain of output row `n`, super-block `b`, group `i`. -/
def gOut (n : Fin 18944) (b : Fin 14) (i : Fin 16) : EReal := (d (ix2 n b) : EReal) * (((scOut sc n b i).toInt : ℝ) : EReal)
/-- The quant of output row `n` at input `K`. -/
def qOut (n : Fin 18944) (K : Fin 3584) : ℤ :=
  qInt (qs (ix3 n ⟨K.val / 256, by omega⟩ ⟨32 * (K.val / 128 % 2) + K.val % 32, by omega⟩)) (hm (ix3 n ⟨K.val / 256, by omega⟩ ⟨K.val % 32, by omega⟩)) (K.val / 32 % 4) (4 * (K.val / 128 % 2) + K.val / 32 % 4)
/-- The weight of output row `n` at input `K`. -/
def wOut (n : Fin 18944) (K : Fin 3584) : EReal := ((qOut hm qs n K : ℝ) : EReal) * gOut sc d n ⟨K.val / 256, by omega⟩ ⟨K.val / 16 % 16, by omega⟩
/-- The product of quantised row `(b, s)` with output row `n`. -/
def yOut (b : Fin 2) (s : Fin 4096) (n : Fin 18944) : EReal := ∑ K : Fin 3584, xqv (xRow x b s) (gRow g) K * wOut hm qs sc d n K

end Values

variable (m : (ℓ : Loc nD τ sig) → Buf (Elt Ideal) ℓ) (ρ : Dev nD → PrngReg) (c : Dev nD)

/-- The arguments as the launch memory holds them. -/
abbrev aX : Vec Ideal S2x4096x3584 .bf16 := m ((c.tc : Thread nD τ).loc main_arg0)
abbrev aG : Vec Ideal S3584 .f32 := m ((c.tc : Thread nD τ).loc main_arg1)
abbrev aH : Vec Ideal S18944x14x32 .i8 := m ((c.tc : Thread nD τ).loc main_arg2)
abbrev aQ : Vec Ideal S18944x14x64 .i8 := m ((c.tc : Thread nD τ).loc main_arg3)
abbrev aS : Vec Ideal S18944x14x12 .i8 := m ((c.tc : Thread nD τ).loc main_arg4)
abbrev aD : Vec Ideal S18944x14 .f16 := m ((c.tc : Thread nD τ).loc main_arg5)

theorem V1_x (n : Fin 8192) (k : Fin 3584) : (V1 m ρ c main_v0 : Vec Ideal S8192x3584 .bf16) (ix2 n k) = aX m c (ix3 ⟨n.val / 4096, by omega⟩ ⟨n.val % 4096, by omega⟩ k) := by
  unfold V1 W1 hostOps0
  after_reads_at
theorem V1_g (k : Fin 3584) : (V1 m ρ c main_v1 : Vec Ideal S1x3584 .f32) (ix2 0 k) = aG m c (ix1 k) := by
  unfold V1 W1 hostOps0
  after_reads_at

theorem rowV_eq (n : Fin 8192) : rowV (V1 m ρ) c n = xRow (aX m c) ⟨n.val / 4096, by omega⟩ ⟨n.val % 4096, by omega⟩ := funext fun k => V1_x m ρ c n k
theorem gainV_eq : gainV (V1 m ρ) c = gRow (aG m c) := funext fun k => V1_g m ρ c k

theorem V3_qs (b : Fin 14) (q : Fin 64) (n : Fin 18944) : (V3 m ρ c main_v3 : Vec Ideal S14x64x18944 .i8) (ix3 b q n) = aQ m c (ix3 n b q) := by
  unfold aQ
  rw [← W2_args m ρ c main_arg3 (by decide)]
  unfold V3 W3 hostOps1
  after_reads_at
theorem V3_hm (b : Fin 14) (q : Fin 32) (n : Fin 18944) : (V3 m ρ c main_v4 : Vec Ideal S14x32x18944 .i8) (ix3 b q n) = aH m c (ix3 n b q) := by
  unfold aH
  rw [← W2_args m ρ c main_arg2 (by decide)]
  unfold V3 W3 hostOps1
  after_reads_at
theorem V3_sc (q : Fin 12) (b : Fin 14) (n : Fin 18944) : (V3 m ρ c main_v5 : Vec Ideal S12x14x18944 .i8) (ix3 q b n) = aS m c (ix3 n b q) := by
  unfold aS
  rw [← W2_args m ρ c main_arg4 (by decide)]
  unfold V3 W3 hostOps1
  after_reads_at
theorem V3_d (b : Fin 14) (n : Fin 18944) : (V3 m ρ c main_v6 : Vec Ideal S14x18944 .f16) (ix2 b n) = aD m c (ix2 n b) := by
  unfold aD
  rw [← W2_args m ρ c main_arg5 (by decide)]
  unfold V3 W3 hostOps1
  after_reads_at

theorem wArr_eq (K : Fin 3584) (n : Fin 18944) : wArr (V3 m ρ c main_v3) (V3 m ρ c main_v4) (V3 m ρ c main_v5) (V3 m ρ c main_v6) K n = wOut (aH m c) (aQ m c) (aS m c) (aD m c) n K := by
  unfold wArr gArr wOut qOut gOut scOut
  rw [V3_qs, V3_hm, V3_sc, V3_sc, V3_d]

theorem V3_xq : V3 m ρ c main_v2_2 = (dat0 (V1 m ρ) c).arrAt 4 cfg0.N :=
  (W3_of m ρ c main_v2_2 (by decide)).trans (W2_arr m ρ c 4)
theorem V4_y : (W4 m ρ c (Proc.devRef .tc main_v7)) = (dat1 (V3 m ρ) c).arrAt 5 cfg1.N := W4_arr m ρ c 5
theorem V4_sc : (W4 m ρ c (Proc.devRef .tc main_v2_1)) = (dat0 (V1 m ρ) c).arrAt 3 cfg0.N :=
  (W4_of_ne m ρ c main_v2_1 (by decide)).trans ((W3_of m ρ c main_v2_1 (by decide)).trans (W2_arr m ρ c 3))
theorem V4_codes : (W4 m ρ c (Proc.devRef .tc main_v2_0)) = (dat0 (V1 m ρ) c).arrAt 2 cfg0.N :=
  (W4_of_ne m ρ c main_v2_0 (by decide)).trans ((W3_of m ρ c main_v2_0 (by decide)).trans (W2_arr m ρ c 2))

theorem W5_y (b : Fin 2) (s : Fin 4096) (n : Fin 18944) : (W5 m ρ c (Proc.devRef .tc main_v8) : Vec Ideal S2x4096x18944 .bf16) (ix3 b s n) = (W4 m ρ c (Proc.devRef .tc main_v7) : Vec Ideal S8192x18944 .bf16) (ix2 ⟨b.val * 4096 + s.val, by omega⟩ n) := by
  unfold W5 hostOps2
  after_reads_at
theorem W5_codes (b : Fin 2) (s : Fin 4096) (n : Fin 3584) : (W5 m ρ c (Proc.devRef .tc main_v9) : Vec Ideal S2x4096x3584 .i8) (ix3 b s n) = (W4 m ρ c (Proc.devRef .tc main_v2_0) : Vec Ideal S8192x3584 .i8) (ix2 ⟨b.val * 4096 + s.val, by omega⟩ n) := by
  unfold W5 hostOps2
  after_reads_at
theorem W5_sc (b : Fin 2) (s : Fin 4096) (n : Fin 14) : (W5 m ρ c (Proc.devRef .tc main_v11) : Vec Ideal S2x4096x14 .f32) (ix3 b s n) = (W4 m ρ c (Proc.devRef .tc main_v2_1) : Vec Ideal S14x8192 .f32) (ix2 n ⟨b.val * 4096 + s.val, by omega⟩) := by
  unfold W5 hostOps2
  after_reads_at

theorem row_of (b : Fin 2) (s : Fin 4096) (h : b.val * 4096 + s.val < 8192) :
    rowV (V1 m ρ) c ⟨b.val * 4096 + s.val, h⟩ = xRow (aX m c) b s := by
  rw [rowV_eq]
  exact congrArg₂ (xRow (aX m c)) (Fin.ext (by show (b.val * 4096 + s.val) / 4096 = _; omega)) (Fin.ext (by show (b.val * 4096 + s.val) % 4096 = _; omega))

/-- Result codes. -/
theorem kernel_codes (b : Fin 2) (s : Fin 4096) (k : Fin 3584) : (W5 m ρ c (Proc.devRef .tc main_v9) : Vec Ideal S2x4096x3584 .i8) (ix3 b s k)
    = FloatOps.fptosi (F := Ideal) (φ := .f32) 8 (code (xRow (aX m c) b s) (gRow (aG m c)) k) := by
  rw [W5_codes, V4_codes, arr0_codes, ← gainV_eq m ρ c, ← row_of m ρ c b s (by omega)]
  rfl

/-- Result scales. -/
theorem kernel_scales (b : Fin 2) (s : Fin 4096) (k : Fin 14) : (W5 m ρ c (Proc.devRef .tc main_v11) : Vec Ideal S2x4096x14 .f32) (ix3 b s k)
    = scl (xRow (aX m c) b s) (gRow (aG m c)) k := by
  rw [W5_sc, V4_sc, arr0_scales, ← gainV_eq m ρ c, ← row_of m ρ c b s (by omega)]
  rfl

/-- The product, the kernel's largest result. -/
theorem kernel_y (b : Fin 2) (s : Fin 4096) (n : Fin 18944) : (W5 m ρ c (Proc.devRef .tc main_v8) : Vec Ideal S2x4096x18944 .bf16) (ix3 b s n)
    = yOut (aX m c) (aG m c) (aH m c) (aQ m c) (aS m c) (aD m c) b s n := by
  rw [W5_y, V4_y, arr1_y]
  unfold yOut
  show yArr _ _ _ _ _ ⟨b.val * 4096 + s.val, _⟩ n = _
  unfold yArr
  refine Finset.sum_congr rfl fun K _ => ?_
  rw [wArr_eq, V3_xq, arr0_xq]
  refine congrArg (fun u : EReal => u * _) ?_
  rw [← gainV_eq m ρ c, ← row_of m ρ c b s (by omega)]
  refine congrArg (fun n => xqv (rowV (V1 m ρ) c n) (gainV (V1 m ρ) c) K) (Fin.ext ?_)
  show 2 * ((b.val * 4096 + s.val) / 2) + (b.val * 4096 + s.val) % 2 = b.val * 4096 + s.val
  omega

end Cert.Q3k

end
-- ==== Proof.Q3k.KEnd.lean ====
/- The kernel program runs to the end, and its three results are what the last valuation holds. -/
module

public import proofs.«01_k».proof.Proof.Q3k.KRun

@[expose] public section

set_option maxRecDepth 16384

noncomputable section

namespace Cert.Q3k

open Cert.KernelIdeal Cert.KernelIdeal.Gen
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program ends with its three results as the last valuation holds them. -/
theorem kernel_run : θ_run defs (onTc (τ := τ) (main (F := Ideal))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_v9) = W5 m ρ c (Proc.devRef .tc main_v9)
      ∧ r.2.mem ((c.tc : Thread nD τ).loc main_v11) = W5 m ρ c (Proc.devRef .tc main_v11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c => ⟨h c _ (mem_uc main_v8 (by decide)), h c _ (mem_uc main_v9 (by decide)), h c _ (mem_uc main_v11 (by decide))⟩)

end Cert.Q3k

end
-- ==== Proof.Q3k.RefTerms.lean ====
/- The reference's host operations as terms, stage by stage, and each stage read at an index. -/
module

public import proofs.«01_k».proof.Proof.Gen.ReferenceIdeal.Frame
public import proofs.«01_k».proof.Proof.Q3k.Spec
public import Idealize.ShloMosaic.Lib.StableHlo.ReadAt
public import Idealize.ShloMosaic.Lib.IdealHost
public import Idealize.ShloMosaic.Lib.KernelVsHost

@[expose] public section

set_option maxRecDepth 16384

noncomputable section

namespace Cert.Q3k.Ref

open Idealize.ShloMosaic Idealize.SL Idealize Cert.ReferenceIdeal Cert.ReferenceIdeal.Gen

/-- The normalised activations. -/
def tNorm (x : FVec Ideal S2x4096x3584 .bf16) (g : FVec Ideal S3584 .f32) : FVec Ideal S2x4096x3584 .f32 :=
  mulf
      (mulf (extf FTy.f32 x bitsLt_bf16_f32)
        (broadcastInDim S2x4096x3584 ![0, 1, 2] bcast_S2x4096x1_S2x4096x3584_0_1_2
          (Host.rsqrt
            (addf
              (Host.divf
                (broadcastInDim S2x4096x1 ![0, 1] bcast_S2x4096_S2x4096x1_0_1
                  (Host.reduceAdd
                    (mulf (extf FTy.f32 x bitsLt_bf16_f32)
                      (extf FTy.f32 x bitsLt_bf16_f32))
                    (constant S_ FTy.f32 0#32) reducesTo_S2x4096x3584_S2x4096_d2 h_S_))
                (broadcastInDim S2x4096x1 ![] bcast_S_S2x4096x1 (constant S_ FTy.f32 1163919360#32)))
              (broadcastInDim S2x4096x1 ![] bcast_S_S2x4096x1 (constant S_ FTy.f32 897988541#32))))))
      (broadcastInDim S2x4096x3584 ![0, 1, 2] bcast_S1x1x3584_S2x4096x3584_0_1_2
        (broadcastInDim S1x1x3584 ![2] bcast_S3584_S1x1x3584_2 g))

/-- The same in blocks of 256 lanes. -/
def tBlocks (xn : FVec Ideal S2x4096x3584 .f32) : FVec Ideal S2x4096x14x256 .f32 := shapeCast S2x4096x14x256 xn shapeCasts_S2x4096x3584_S2x4096x14x256

/-- Each block's largest magnitude. -/
def tAmax (xb : FVec Ideal S2x4096x14x256 .f32) : FVec Ideal S2x4096x14 .f32 :=
  Host.reduce FloatOps.maximumf (Host.absf xb) (constant S_ FTy.f32 4286578688#32) reducesTo_S2x4096x14x256_S2x4096x14_d3 h_S_

/-- Each block's scale. -/
def tScale (a : FVec Ideal S2x4096x14 .f32) : FVec Ideal S2x4096x14 .f32 :=
  select (cmpf .oeq a (broadcastInDim S2x4096x14 ![] bcast_S_S2x4096x14 (constant S_ FTy.f32 0#32)))
    (broadcastInDim S2x4096x14 ![] bcast_S_S2x4096x14 (constant S_ FTy.f32 1065353216#32))
    (Host.divf a (broadcastInDim S2x4096x14 ![] bcast_S_S2x4096x14 (constant S_ FTy.f32 1123942400#32)))

/-- The codes, as floats. -/
def tCode (xb : FVec Ideal S2x4096x14x256 .f32) (sc : FVec Ideal S2x4096x14 .f32) : FVec Ideal S2x4096x3584 .f32 :=
  shapeCast S2x4096x3584
    (minimumf (broadcastInDim S2x4096x14x256 ![] bcast_S_S2x4096x14x256 (constant S_ FTy.f32 1123942400#32))
      (maximumf (broadcastInDim S2x4096x14x256 ![] bcast_S_S2x4096x14x256 (constant S_ FTy.f32 3271426048#32))
        (Host.roundeven (Host.divf xb (broadcastInDim S2x4096x14x256 ![0, 1, 2, 3] bcast_S2x4096x14x1_S2x4096x14x256_0_1_2_3
          (broadcastInDim S2x4096x14x1 ![0, 1, 2] bcast_S2x4096x14_S2x4096x14x1_0_1_2 sc))))))
    shapeCasts_S2x4096x14x256_S2x4096x3584

/-- The quantised activations: codes times scales. -/
def tXq (cd : FVec Ideal S2x4096x3584 .bf16) (sc : FVec Ideal S2x4096x14 .f32) : FVec Ideal S2x4096x14x2x4x32 .bf16 :=
  shapeCast S2x4096x14x2x4x32
    (mulf (shapeCast S2x4096x14x256 cd shapeCasts_S2x4096x3584_S2x4096x14x256)
      (broadcastInDim S2x4096x14x256 ![0, 1, 2, 3] bcast_S2x4096x14x1_S2x4096x14x256_0_1_2_3
        (broadcastInDim S2x4096x14x1 ![0, 1, 2] bcast_S2x4096x14_S2x4096x14x1_0_1_2 (truncf .bf16 sc bitsLt_bf16_f32))))
    shapeCasts_S2x4096x14x256_S2x4096x14x2x4x32

/-- The quants' low two bits. -/
def tLow (qs : IVec S18944x14x64 8) : IVec S18944x14x2x4x32 32 :=
  andi (Host.shrsi (broadcastInDim S18944x14x2x4x32 ![0, 1, 2, 3, 4] bcast_S18944x14x2x1x32_S18944x14x2x4x32_0_1_2_3_4
      (shapeCast S18944x14x2x1x32 (extui 32 qs natLt_8_32) shapeCasts_S18944x14x64_S18944x14x2x1x32))
    (broadcastInDim S18944x14x2x4x32 ![0, 1, 2, 3, 4] bcast_S1x1x1x4x1_S18944x14x2x4x32_0_1_2_3_4
      (broadcastInDim S1x1x1x4x1 ![3, 4] bcast_S4x1_S1x1x1x4x1_3_4
        (muli (broadcastInDim S4x1 ![] bcast_S_S4x1 (constantI S_ 32 2#32)) (shapeCast S4x1 (iotaInDim S4 32 0) shapeCasts_S4_S4x1)))))
    (broadcastInDim S18944x14x2x4x32 ![] bcast_S_S18944x14x2x4x32 (constantI S_ 32 3#32))

/-- The quants' high bit. -/
def tHigh (hm : IVec S18944x14x32 8) : IVec S18944x14x2x4x32 32 :=
  andi (Host.shrsi (broadcastInDim S18944x14x2x4x32 ![0, 1, 2, 3, 4] bcast_S18944x14x1x1x32_S18944x14x2x4x32_0_1_2_3_4
      (broadcastInDim S18944x14x1x1x32 ![0, 1, 4] bcast_S18944x14x32_S18944x14x1x1x32_0_1_4 (extui 32 hm natLt_8_32)))
    (broadcastInDim S18944x14x2x4x32 ![0, 1, 2, 3, 4] bcast_S1x1x2x4x1_S18944x14x2x4x32_0_1_2_3_4
      (broadcastInDim S1x1x2x4x1 ![2, 3, 4] bcast_S2x4x1_S1x1x2x4x1_2_3_4
        (broadcastInDim S2x4x1 ![0, 1] bcast_S2x4_S2x4x1_0_1
          (addi (broadcastInDim S2x4 ![0, 1] bcast_S2x1_S2x4_0_1 (muli (broadcastInDim S2x1 ![] bcast_S_S2x1 (constantI S_ 32 4#32)) (broadcastInDim S2x1 ![0] bcast_S2_S2x1_0 (iotaInDim S2 32 0))))
            (broadcastInDim S2x4 ![0, 1] bcast_S1x4_S2x4_0_1 (broadcastInDim S1x4 ![1] bcast_S4_S1x4_1 (iotaInDim S4 32 0))))))))
    (broadcastInDim S18944x14x2x4x32 ![] bcast_S_S18944x14x2x4x32 (constantI S_ 32 1#32))

/-- The quants. -/
def tQ (low high : IVec S18944x14x2x4x32 32) : FVec Ideal S18944x14x2x4x32 .bf16 :=
  sitofp (w := 32) .bf16 (subi (addi low (muli (broadcastInDim S18944x14x2x4x32 ![] bcast_S_S18944x14x2x4x32 (constantI S_ 32 4#32)) high))
    (broadcastInDim S18944x14x2x4x32 ![] bcast_S_S18944x14x2x4x32 (constantI S_ 32 4#32)))

/-- The 6-bit scales' low four bits. -/
def tLo (sc : IVec S18944x14x12 8) : IVec S18944x14x16 32 :=
  shapeCast S18944x14x16 (andi (Host.shrsi (broadcastInDim S18944x14x2x8 ![0, 1, 2, 3] bcast_S18944x14x1x8_S18944x14x2x8_0_1_2_3
      (broadcastInDim S18944x14x1x8 ![0, 1, 3] bcast_S18944x14x8_S18944x14x1x8_0_1_3
        (extractStridedSlice S18944x14x8 ![0, 0, 0] (extui 32 sc natLt_8_32) slices_S18944x14x12_S18944x14x8_0_0_0)))
    (broadcastInDim S18944x14x2x8 ![0, 1, 2, 3] bcast_S1x1x2x1_S18944x14x2x8_0_1_2_3
      (broadcastInDim S1x1x2x1 ![2, 3] bcast_S2x1_S1x1x2x1_2_3
        (shapeCast S2x1 (muli (broadcastInDim S2 ![] bcast_S_S2 (constantI S_ 32 4#32)) (iotaInDim S2 32 0)) shapeCasts_S2_S2x1))))
    (broadcastInDim S18944x14x2x8 ![] bcast_S_S18944x14x2x8 (constantI S_ 32 15#32))) shapeCasts_S18944x14x2x8_S18944x14x16

/-- The 6-bit scales' high two bits. -/
def tHi (sc : IVec S18944x14x12 8) : IVec S18944x14x16 32 :=
  shapeCast S18944x14x16 (andi (Host.shrsi (broadcastInDim S18944x14x4x4 ![0, 1, 2, 3] bcast_S18944x14x1x4_S18944x14x4x4_0_1_2_3
      (broadcastInDim S18944x14x1x4 ![0, 1, 3] bcast_S18944x14x4_S18944x14x1x4_0_1_3
        (extractStridedSlice S18944x14x4 ![0, 0, 8] (extui 32 sc natLt_8_32) slices_S18944x14x12_S18944x14x4_0_0_8)))
    (broadcastInDim S18944x14x4x4 ![0, 1, 2, 3] bcast_S1x1x4x1_S18944x14x4x4_0_1_2_3
      (broadcastInDim S1x1x4x1 ![2, 3] bcast_S4x1_S1x1x4x1_2_3
        (shapeCast S4x1 (muli (broadcastInDim S4 ![] bcast_S_S4 (constantI S_ 32 2#32)) (iotaInDim S4 32 0)) shapeCasts_S4_S4x1))))
    (broadcastInDim S18944x14x4x4 ![] bcast_S_S18944x14x4x4 (constantI S_ 32 3#32))) shapeCasts_S18944x14x4x4_S18944x14x16

/-- The gain of each group of 16 weights. -/
def tGain (lo hi : IVec S18944x14x16 32) (d : FVec Ideal S18944x14 .f32) : FVec Ideal S18944x14x16 .bf16 :=
  truncf .bf16 (mulf (broadcastInDim S18944x14x16 ![0, 1, 2] bcast_S18944x14x1_S18944x14x16_0_1_2 (broadcastInDim S18944x14x1 ![0, 1] bcast_S18944x14_S18944x14x1_0_1 d))
    (sitofp (w := 32) .f32 (subi (ori lo (Host.shli hi (broadcastInDim S18944x14x16 ![] bcast_S_S18944x14x16 (constantI S_ 32 4#32))))
      (broadcastInDim S18944x14x16 ![] bcast_S_S18944x14x16 (constantI S_ 32 32#32))))) bitsLt_bf16_f32

/-- The weights. -/
def tW (q : FVec Ideal S18944x14x2x4x32 .bf16) (g : FVec Ideal S18944x14x16 .bf16) : FVec Ideal S18944x14x2x4x32 .bf16 :=
  shapeCast S18944x14x2x4x32 (mulf (shapeCast S18944x14x2x4x2x16 q shapeCasts_S18944x14x2x4x32_S18944x14x2x4x2x16)
    (broadcastInDim S18944x14x2x4x2x16 ![0, 1, 2, 3, 4, 5] bcast_S18944x14x2x4x2x1_S18944x14x2x4x2x16_0_1_2_3_4_5
      (shapeCast S18944x14x2x4x2x1 g shapeCasts_S18944x14x16_S18944x14x2x4x2x1))) shapeCasts_S18944x14x2x4x2x16_S18944x14x2x4x32

section At
variable (x : FVec Ideal S2x4096x3584 .bf16) (g : FVec Ideal S3584 .f32)

theorem tNorm_at (b : Fin 2) (s : Fin 4096) (k : Fin 3584) : tNorm x g (ix3 b s k) = normed (fun k => x (ix3 b s k)) (fun k => g (ix1 k)) k := by
  pointwise [tNorm]
  rfl
theorem tBlocks_at (xn : FVec Ideal S2x4096x3584 .f32) (b : Fin 2) (s : Fin 4096) (n : Fin 14) (l : Fin 256) : tBlocks xn (ix4 b s n l) = xn (ix3 b s ⟨n.val * 256 + l.val, by omega⟩) := by
  pointwise [tBlocks]
theorem tAmax_at (xb : FVec Ideal S2x4096x14x256 .f32) (b : Fin 2) (s : Fin 4096) (n : Fin 14) : tAmax xb (ix3 b s n)
    = Finset.fold max (Ideal.ofBits .f32 4286578688#32) (fun l : Fin 256 => FloatOps.absf (F := Ideal) (φ := .f32) (xb (ix4 b s n l))) Finset.univ := by
  pointwise [tAmax]
theorem tScale_at (a : FVec Ideal S2x4096x14 .f32) (b : Fin 2) (s : Fin 4096) (n : Fin 14) : tScale a (ix3 b s n)
    = if a (ix3 b s n) = 0 then 1 else Ideal.div (a (ix3 b s n)) (Ideal.ofBits .f32 1123942400#32) := by
  pointwise [tScale]
theorem tCode_at (xb : FVec Ideal S2x4096x14x256 .f32) (sc : FVec Ideal S2x4096x14 .f32) (b : Fin 2) (s : Fin 4096) (k : Fin 3584) : tCode xb sc (ix3 b s k)
    = min (Ideal.ofBits .f32 1123942400#32) (max (Ideal.ofBits .f32 3271426048#32) (Ideal.liftRound Ideal.roundHalfEven (Ideal.div (xb (ix4 b s ⟨k.val / 256, by omega⟩ ⟨k.val % 256, by omega⟩)) (sc (ix3 b s ⟨k.val / 256, by omega⟩))))) := by
  pointwise [tCode]
theorem tGain_at (lo hi : IVec S18944x14x16 32) (d : FVec Ideal S18944x14 .f32) (n : Fin 18944) (b : Fin 14) (i : Fin 16) : tGain lo hi d (ix3 n b i)
    = d (ix2 n b) * (((IntOp.subi (IntOp.ori (lo (ix3 n b i)) (IntOp.shli .host (hi (ix3 n b i)) 4#32)) 32#32).toInt : ℝ) : EReal) := by
  pointwise [tGain]
  rfl

theorem tLo_at (sc : IVec S18944x14x12 8) (n : Fin 18944) (b : Fin 14) (i : Fin 16) : tLo sc (ix3 n b i)
    = IntOp.andi (IntOp.shrsi .host ((sc (ix3 n b ⟨i.val % 8, by omega⟩)).setWidth 32) (IntOp.muli 4#32 (BitVec.ofNat 32 (i.val / 8)))) 15#32 := by
  pointwise [tLo]
theorem tHi_at (sc : IVec S18944x14x12 8) (n : Fin 18944) (b : Fin 14) (i : Fin 16) : tHi sc (ix3 n b i)
    = IntOp.andi (IntOp.shrsi .host ((sc (ix3 n b ⟨8 + i.val % 4, by omega⟩)).setWidth 32) (IntOp.muli 2#32 (BitVec.ofNat 32 (i.val / 4)))) 3#32 := by
  pointwise [tHi]
theorem tLow_at (qs : IVec S18944x14x64 8) (n : Fin 18944) (b : Fin 14) (h : Fin 2) (j : Fin 4) (l : Fin 32) : tLow qs (ix5 n b h j l)
    = IntOp.andi (IntOp.shrsi .host ((qs (ix3 n b ⟨h.val * 32 + l.val, by omega⟩)).setWidth 32) (IntOp.muli 2#32 (BitVec.ofNat 32 j.val))) 3#32 := by
  pointwise [tLow]
theorem tHigh_at (hm : IVec S18944x14x32 8) (n : Fin 18944) (b : Fin 14) (h : Fin 2) (j : Fin 4) (l : Fin 32) : tHigh hm (ix5 n b h j l)
    = IntOp.andi (IntOp.shrsi .host ((hm (ix3 n b l)).setWidth 32) (IntOp.addi (IntOp.muli 4#32 (BitVec.ofNat 32 h.val)) (BitVec.ofNat 32 j.val))) 1#32 := by
  pointwise [tHigh]
theorem tQ_at (low high : IVec S18944x14x2x4x32 32) (n : Fin 18944) (b : Fin 14) (h : Fin 2) (j : Fin 4) (l : Fin 32) : tQ low high (ix5 n b h j l)
    = (((IntOp.subi (IntOp.addi (low (ix5 n b h j l)) (IntOp.muli 4#32 (high (ix5 n b h j l)))) 4#32).toInt : ℝ) : EReal) := by
  pointwise [tQ]
  rfl
theorem tXq_at (cd : FVec Ideal S2x4096x3584 .bf16) (sc : FVec Ideal S2x4096x14 .f32) (b : Fin 2) (s : Fin 4096) (n : Fin 14) (h : Fin 2) (j : Fin 4) (l : Fin 32) :
    tXq cd sc (ix6 b s n h j l) = cd (ix3 b s ⟨n.val * 256 + (h.val * 128 + j.val * 32 + l.val), by omega⟩) * sc (ix3 b s n) := by
  pointwise [tXq]
theorem tW_at (q : FVec Ideal S18944x14x2x4x32 .bf16) (g : FVec Ideal S18944x14x16 .bf16) (n : Fin 18944) (b : Fin 14) (h : Fin 2) (j : Fin 4) (l : Fin 32) :
    tW q g (ix5 n b h j l) = q (ix5 n b h j l) * g (ix3 n b ⟨h.val * 8 + j.val * 2 + l.val / 16, by omega⟩) := by
  pointwise [tW]

end At

end Cert.Q3k.Ref

end
-- ==== Proof.Q3k.RefPre.lean ====
/- What the reference's host operations before its region leave: the scales and the codes as floats. -/
module

public import proofs.«01_k».proof.Proof.Q3k.RefTerms

@[expose] public section

set_option maxRecDepth 16384

noncomputable section

namespace Cert.Q3k.Ref

open Idealize.ShloMosaic Idealize.ShloMosaic.TcCoe Idealize.ShloMosaic.Tactic Idealize.SL Idealize Cert.ReferenceIdeal Cert.ReferenceIdeal.Gen

variable (m : (ℓ : Loc nD τ sig) → Buf (Elt Ideal) ℓ)

/-- The reference's arguments. -/
abbrev bX (c : Dev nD) : FVec Ideal S2x4096x3584 .bf16 := m ((c.tc : Thread nD τ).loc main_arg0)
abbrev bG (c : Dev nD) : FVec Ideal S3584 .f32 := m ((c.tc : Thread nD τ).loc main_arg1)
abbrev bH (c : Dev nD) : IVec S18944x14x32 8 := m ((c.tc : Thread nD τ).loc main_arg2)
abbrev bQ (c : Dev nD) : IVec S18944x14x64 8 := m ((c.tc : Thread nD τ).loc main_arg3)
abbrev bS (c : Dev nD) : IVec S18944x14x12 8 := m ((c.tc : Thread nD τ).loc main_arg4)
abbrev bD (c : Dev nD) : FVec Ideal S18944x14 .f16 := m ((c.tc : Thread nD τ).loc main_arg5)

set_option backward.isDefEq.respectTransparency.types false in
/-- The scales. -/
theorem V_v21 (c : Dev nD) : V m c main_v21 = tScale (tAmax (tBlocks (tNorm (bX m c) (bG m c)))) := by
  unfold V V0
  after_reads_simp
  simp -implicitDefEqProofs only [StableHlo.TRef.toBuf, StableHlo.TRef.ofBuf, cast_cast, cast_eq]
  rfl

set_option backward.isDefEq.respectTransparency.types false in
/-- The codes, as floats. -/
theorem V_v27 (c : Dev nD) : V m c main_v27 = tCode (tBlocks (tNorm (bX m c) (bG m c))) (tScale (tAmax (tBlocks (tNorm (bX m c) (bG m c))))) := by
  unfold V V0
  after_reads_simp
  simp -implicitDefEqProofs only [StableHlo.TRef.toBuf, StableHlo.TRef.ofBuf, cast_cast, cast_eq]
  rfl

/-- A row of the activations, and the norm's gains. -/
abbrev bRow (c : Dev nD) (b : Fin 2) (s : Fin 4096) : Fin 3584 → EReal := fun k => bX m c (ix3 b s k)
abbrev bGain (c : Dev nD) : Fin 3584 → EReal := fun k => bG m c (ix1 k)

theorem scale_at (c : Dev nD) (b : Fin 2) (s : Fin 4096) (n : Fin 14) :
    tScale (tAmax (tBlocks (tNorm (bX m c) (bG m c)))) (ix3 b s n) = scl (bRow m c b s) (bGain m c) n := by
  have h : tAmax (tBlocks (tNorm (bX m c) (bG m c))) (ix3 b s n) = amax (bRow m c b s) (bGain m c) n := by
    rw [tAmax_at]
    simp only [tBlocks_at, tNorm_at]
    unfold amax
    refine congrArg (fun f => Finset.fold max _ f Finset.univ) (funext fun l => ?_)
    have e : (⟨n.val * 256 + l.val, by omega⟩ : Fin 3584) = ⟨256 * n.val + l.val, by omega⟩ := Fin.ext (by dsimp only; omega)
    rw [e]
  rw [tScale_at, h]
  rfl

theorem code_at (c : Dev nD) (b : Fin 2) (s : Fin 4096) (k : Fin 3584) :
    tCode (tBlocks (tNorm (bX m c) (bG m c))) (tScale (tAmax (tBlocks (tNorm (bX m c) (bG m c))))) (ix3 b s k) = code (bRow m c b s) (bGain m c) k := by
  rw [tCode_at, scale_at, tBlocks_at, tNorm_at]
  unfold code
  have e : (⟨k.val / 256 * 256 + k.val % 256, by omega⟩ : Fin 3584) = k := Fin.ext (by dsimp only; omega)
  rw [e]

end Cert.Q3k.Ref

end
-- ==== Proof.Q3k.RefRegion.lean ====
/- The three arrays of casts that the reference's region leaves. -/
module

public import proofs.«01_k».proof.Proof.Q3k.RefPre
public import Idealize.ShloMosaic.Lib.Pipeline.ValueKit

@[expose] public section

set_option maxRecDepth 16384

noncomputable section

namespace Cert.Q3k.Ref

open Idealize.ShloMosaic Idealize.ShloMosaic.TcCoe Idealize.ShloMosaic.Tactic Idealize.SL Idealize Cert.ReferenceIdeal Cert.ReferenceIdeal.Gen
open Idealize.ShloMosaic.Pipeline (Dat Cfg Window Grid)

variable (m : (ℓ : Loc nD τ sig) → Buf (Elt Ideal) ℓ)

/-- The codes and the scales, as the lines before the region compute them. -/
def refScale (c : Dev nD) : FVec Ideal S2x4096x14 .f32 := tScale (tAmax (tBlocks (tNorm (bX m c) (bG m c))))
def refCode (c : Dev nD) : FVec Ideal S2x4096x3584 .f32 := tCode (tBlocks (tNorm (bX m c) (bG m c))) (refScale m c)

set_option backward.isDefEq.respectTransparency.types false in
/-- A gridless call's window reads its whole array. -/
theorem whole_read {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Grid.none.N) (X : arr.view.ty.Contents (Elt Ideal)) :
    ((Window.whole arr isOut sync stage sem harr hstage).blk t).view.read (Elt Ideal) X = arr.view.read (Elt Ideal) X := by
  funext j
  rw [View.read_apply, View.read_apply]
  have e : ((Window.whole arr isOut sync stage sem harr hstage).blk t).view.emb j = arr.view.emb j := by
    refine congrArg arr.view.emb (funext fun a => Fin.ext ?_)
    rw [Rect.emb_apply]
    show 0 * s.size a + 1 * (j a).val = (j a).val
    omega
  rw [e]

set_option backward.isDefEq.respectTransparency.types false in
/-- The region's two inputs. -/
theorem blk_code (c : Dev nD) : iblk m c 0 t0_0 = refCode m c := by
  have h : iblk m c 0 t0_0 = (Memref.whole main_v27).view.read (Elt Ideal) (V m c main_v27) := by
    unfold iblk
    generalize V m c (Pipeline.arrRef spec0 0) = X
    exact whole_read (Memref.whole main_v27) false false (stage0_0 0) (sem0_0 0) (Memref.isWhole_whole _) (hstage0_0 0) t0_0 X
  refine h.trans ((View.read_whole _ _).trans ?_)
  exact V_v27 m c

set_option backward.isDefEq.respectTransparency.types false in
theorem blk_d (c : Dev nD) : iblk m c 1 t0_0 = bD m c := by
  have h : iblk m c 1 t0_0 = (Memref.whole main_arg5).view.read (Elt Ideal) (V m c main_arg5) := by
    unfold iblk
    generalize V m c (Pipeline.arrRef spec0 1) = X
    exact whole_read (Memref.whole main_arg5) false false (stage0_1 0) (sem0_1 0) (Memref.isWhole_whole _) (hstage0_1 0) t0_0 X
  refine h.trans ((View.read_whole _ _).trans ?_)
  exact V_main_arg5 m c

theorem out2_eq (X : FVec Ideal S2x4096x3584 .f32) (Y) : out0_2 (F := Ideal) X Y = fptosi (F := Ideal) (φ := .f32) 8 X := by
  unfold out0_2
  rw [View.canon_unit_zero (by decide), View.ld_unit_zero (by decide)]
  unfold k0_pay1
  simp only [shapeCast_self]

theorem out3_eq (X : FVec Ideal S2x4096x3584 .f32) (Y) : out0_3 (F := Ideal) X Y = sitofp (F := Ideal) .bf16 (fptosi (F := Ideal) (φ := .f32) 8 X) := by
  unfold out0_3
  rw [View.canon_unit_zero (by decide), View.ld_unit_zero (by decide)]
  unfold k0_pay2 k0_pay1
  simp only [shapeCast_self]

theorem out4_eq (X) (Y : FVec Ideal S18944x14 .f16) : out0_4 (F := Ideal) X Y = extf (F := Ideal) .f32 Y bitsLt_f16_f32 := by
  unfold out0_4
  rw [View.canon_unit_zero (by decide), View.ld_unit_zero (by decide)]
  unfold k0_pay3
  rfl

set_option backward.isDefEq.respectTransparency.types false in
/-- The codes. -/
theorem reg_codes (c : Dev nD) : (dats m 0 c).arrAt 2 cfg0.N = (fptosi 8 (refCode m c) : IVec S2x4096x3584 8) := by
  refine (dats m 0 c).arrAt_eq_of_after_last 2 t0_0 (by decide +kernel) _ fun j => ?_
  rw [after0_2, blk_code, out2_eq]
  generalize (fptosi 8 (refCode m c) : IVec S2x4096x3584 8) = O
  rfl

set_option backward.isDefEq.respectTransparency.types false in
/-- The codes as bf16. -/
theorem reg_codes16 (c : Dev nD) : (dats m 0 c).arrAt 3 cfg0.N = (sitofp .bf16 (fptosi 8 (refCode m c) : IVec S2x4096x3584 8) : FVec Ideal S2x4096x3584 .bf16) := by
  refine (dats m 0 c).arrAt_eq_of_after_last 3 t0_0 (by decide +kernel) _ fun j => ?_
  rw [after0_3, blk_code, out3_eq]
  generalize (sitofp .bf16 (fptosi 8 (refCode m c) : IVec S2x4096x3584 8) : FVec Ideal S2x4096x3584 .bf16) = O
  rfl

set_option backward.isDefEq.respectTransparency.types false in
/-- The weights' block gains as f32. -/
theorem reg_d (c : Dev nD) : (dats m 0 c).arrAt 4 cfg0.N = (extf .f32 (bD m c) bitsLt_f16_f32 : FVec Ideal S18944x14 .f32) := by
  refine (dats m 0 c).arrAt_eq_of_after_last 4 t0_0 (by decide +kernel) _ fun j => ?_
  rw [after0_4, blk_d, out4_eq]
  generalize (extf .f32 (bD m c) bitsLt_f16_f32 : FVec Ideal S18944x14 .f32) = O
  rfl

end Cert.Q3k.Ref

end
-- ==== Proof.Q3k.RefSuf.lean ====
/- The reference's host operations after its region: the eight products, and their sum. -/
module

public import proofs.«01_k».proof.Proof.Q3k.RefTerms

@[expose] public section

set_option maxRecDepth 16384

noncomputable section

namespace Cert.Q3k.Ref

open Idealize.ShloMosaic Idealize.ShloMosaic.TcCoe Idealize.ShloMosaic.Tactic Idealize.SL Idealize Cert.ReferenceIdeal Cert.ReferenceIdeal.Gen

/-- One of the eight products: lanes `128h+32j .. +32` of every block. -/
def tDot (h j : ℕ) (hx : S2x4096x14x2x4x32.Slices ![0, 0, 0, h, j, 0] S2x4096x14x1x1x32) (hw : S18944x14x2x4x32.Slices ![0, 0, h, j, 0] S18944x14x1x1x32)
    (xq : FVec Ideal S2x4096x14x2x4x32 .bf16) (w : FVec Ideal S18944x14x2x4x32 .bf16) : FVec Ideal S2x4096x18944 .f32 :=
  Host.dotGeneral dot_S2x4096x14x32_S18944x14x32_S2x4096x18944_32_21_01_0_n_n none
    (shapeCast S2x4096x14x32 (extractStridedSlice S2x4096x14x1x1x32 ![0, 0, 0, h, j, 0] xq hx) shapeCasts_S2x4096x14x1x1x32_S2x4096x14x32)
    (shapeCast S18944x14x32 (extractStridedSlice S18944x14x1x1x32 ![0, 0, h, j, 0] w hw) shapeCasts_S18944x14x1x1x32_S18944x14x32)

theorem tDot_at (h : Fin 2) (j : Fin 4) (hx : S2x4096x14x2x4x32.Slices ![0, 0, 0, h.val, j.val, 0] S2x4096x14x1x1x32) (hw : S18944x14x2x4x32.Slices ![0, 0, h.val, j.val, 0] S18944x14x1x1x32)
    (xq : FVec Ideal S2x4096x14x2x4x32 .bf16) (w : FVec Ideal S18944x14x2x4x32 .bf16) (b : Fin 2) (s : Fin 4096) (n : Fin 18944) :
    tDot h.val j.val hx hw xq w (ix3 b s n) = ∑ l : Fin 32, ∑ k : Fin 14, xq (ix6 b s k h j l) * w (ix5 n k h j l) := by
  pointwise [tDot]

/-- The eight products summed in order, and rounded. -/
def tY (xq : FVec Ideal S2x4096x14x2x4x32 .bf16) (w : FVec Ideal S18944x14x2x4x32 .bf16) : FVec Ideal S2x4096x18944 .bf16 :=
  truncf .bf16 (addf (addf (addf (addf (addf (addf (addf (tDot 0 0 slices_S2x4096x14x2x4x32_S2x4096x14x1x1x32_0_0_0_0_0_0 slices_S18944x14x2x4x32_S18944x14x1x1x32_0_0_0_0_0 xq w)
    (tDot 0 1 slices_S2x4096x14x2x4x32_S2x4096x14x1x1x32_0_0_0_0_1_0 slices_S18944x14x2x4x32_S18944x14x1x1x32_0_0_0_1_0 xq w))
    (tDot 0 2 slices_S2x4096x14x2x4x32_S2x4096x14x1x1x32_0_0_0_0_2_0 slices_S18944x14x2x4x32_S18944x14x1x1x32_0_0_0_2_0 xq w))
    (tDot 0 3 slices_S2x4096x14x2x4x32_S2x4096x14x1x1x32_0_0_0_0_3_0 slices_S18944x14x2x4x32_S18944x14x1x1x32_0_0_0_3_0 xq w))
    (tDot 1 0 slices_S2x4096x14x2x4x32_S2x4096x14x1x1x32_0_0_0_1_0_0 slices_S18944x14x2x4x32_S18944x14x1x1x32_0_0_1_0_0 xq w))
    (tDot 1 1 slices_S2x4096x14x2x4x32_S2x4096x14x1x1x32_0_0_0_1_1_0 slices_S18944x14x2x4x32_S18944x14x1x1x32_0_0_1_1_0 xq w))
    (tDot 1 2 slices_S2x4096x14x2x4x32_S2x4096x14x1x1x32_0_0_0_1_2_0 slices_S18944x14x2x4x32_S18944x14x1x1x32_0_0_1_2_0 xq w))
    (tDot 1 3 slices_S2x4096x14x2x4x32_S2x4096x14x1x1x32_0_0_0_1_3_0 slices_S18944x14x2x4x32_S18944x14x1x1x32_0_0_1_3_0 xq w)) bitsLt_bf16_f32

theorem tY_at (xq : FVec Ideal S2x4096x14x2x4x32 .bf16) (w : FVec Ideal S18944x14x2x4x32 .bf16) (b : Fin 2) (s : Fin 4096) (n : Fin 18944) :
    tY xq w (ix3 b s n) = ∑ h : Fin 2, ∑ j : Fin 4, ∑ l : Fin 32, ∑ k : Fin 14, xq (ix6 b s k h j l) * w (ix5 n k h j l) := by
  rw [Fin.sum_univ_two, Fin.sum_univ_four, Fin.sum_univ_four]
  rw [← tDot_at 0 0 slices_S2x4096x14x2x4x32_S2x4096x14x1x1x32_0_0_0_0_0_0 slices_S18944x14x2x4x32_S18944x14x1x1x32_0_0_0_0_0 xq w b s n,
    ← tDot_at 0 1 slices_S2x4096x14x2x4x32_S2x4096x14x1x1x32_0_0_0_0_1_0 slices_S18944x14x2x4x32_S18944x14x1x1x32_0_0_0_1_0 xq w b s n,
    ← tDot_at 0 2 slices_S2x4096x14x2x4x32_S2x4096x14x1x1x32_0_0_0_0_2_0 slices_S18944x14x2x4x32_S18944x14x1x1x32_0_0_0_2_0 xq w b s n,
    ← tDot_at 0 3 slices_S2x4096x14x2x4x32_S2x4096x14x1x1x32_0_0_0_0_3_0 slices_S18944x14x2x4x32_S18944x14x1x1x32_0_0_0_3_0 xq w b s n,
    ← tDot_at 1 0 slices_S2x4096x14x2x4x32_S2x4096x14x1x1x32_0_0_0_1_0_0 slices_S18944x14x2x4x32_S18944x14x1x1x32_0_0_1_0_0 xq w b s n,
    ← tDot_at 1 1 slices_S2x4096x14x2x4x32_S2x4096x14x1x1x32_0_0_0_1_1_0 slices_S18944x14x2x4x32_S18944x14x1x1x32_0_0_1_1_0 xq w b s n,
    ← tDot_at 1 2 slices_S2x4096x14x2x4x32_S2x4096x14x1x1x32_0_0_0_1_2_0 slices_S18944x14x2x4x32_S18944x14x1x1x32_0_0_1_2_0 xq w b s n,
    ← tDot_at 1 3 slices_S2x4096x14x2x4x32_S2x4096x14x1x1x32_0_0_0_1_3_0 slices_S18944x14x2x4x32_S18944x14x1x1x32_0_0_1_3_0 xq w b s n]
  simp only [← add_assoc]
  rfl

set_option backward.isDefEq.respectTransparency.types false in
/-- The lines after the region, from any contents: the product of the quantised activations and the weights. -/
theorem suffix_y (W : Valuation τ sig (Elt Ideal)) : StableHlo.after hostOps1 W (Proc.devRef .tc main_v160)
    = tY (tXq (W (Proc.devRef .tc main_v28_1)) (W (Proc.devRef .tc main_v21)))
        (tW (tQ (tLow (W (Proc.devRef .tc main_arg3))) (tHigh (W (Proc.devRef .tc main_arg2))))
          (tGain (tLo (W (Proc.devRef .tc main_arg4))) (tHi (W (Proc.devRef .tc main_arg4))) (W (Proc.devRef .tc main_v28_2)))) := by
  after_reads_simp
  rfl

end Cert.Q3k.Ref

end
-- ==== Proof.Q3k.RefRun.lean ====
/- The reference runs to the end, and its three results are the stages of its own lines. -/
module

public import proofs.«01_k».proof.Proof.Q3k.RefRegion
public import proofs.«01_k».proof.Proof.Q3k.RefSuf

@[expose] public section

set_option maxRecDepth 16384

noncomputable section

namespace Cert.Q3k.Ref

open Idealize.ShloMosaic Idealize.ShloMosaic.TcCoe Idealize.ShloMosaic.Tactic Idealize.SL Idealize Cert.ReferenceIdeal Cert.ReferenceIdeal.Gen
open Idealize.SL.Sem
open Idealize.ShloMosaic.Pipeline (Dat Cfg Window)

variable (m : (ℓ : Loc nD τ sig) → Buf (Elt Ideal) ℓ) (ρ : Dev nD → PrngReg)

/-- The codes as bf16, the quantised activations, the weights. -/
def refCode16 (c : Dev nD) : FVec Ideal S2x4096x3584 .bf16 := sitofp .bf16 (fptosi 8 (refCode m c) : IVec S2x4096x3584 8)
def refXq (c : Dev nD) : FVec Ideal S2x4096x14x2x4x32 .bf16 := tXq (refCode16 m c) (refScale m c)
def refW (c : Dev nD) : FVec Ideal S18944x14x2x4x32 .bf16 :=
  tW (tQ (tLow (bQ m c)) (tHigh (bH m c))) (tGain (tLo (bS m c)) (tHi (bS m c)) (extf .f32 (bD m c) bitsLt_f16_f32))

/-- What the region leaves, all buffers. -/
def exitV (c : Dev nD) : Valuation τ sig (Elt Ideal) :=
  Pipeline.withArrays (cfgs 0).spec c (V0 m c) fun w => (dats m 0 c).arrAt w (cfgs 0).N

set_option backward.isDefEq.respectTransparency.types false in
theorem exit_of_ne (c : Dev nD) (b : Ref sig .tc) (h : ∀ w, Pipeline.arrRef spec0 w ≠ b) : exitV m c (Proc.devRef .tc b) = V m c b :=
  Pipeline.withArrays_of_ne _ c (V0 m c) _ b h

theorem arr_inj : Function.Injective (Pipeline.arrRef spec0) := by decide

set_option backward.isDefEq.respectTransparency.types false in
theorem exit_codes16 (c : Dev nD) : exitV m c (Proc.devRef .tc main_v28_1) = refCode16 m c :=
  (Pipeline.withArrays_arr spec0 arr_inj c (V0 m c) (fun w => (dats m 0 c).arrAt w (cfgs 0).N) 3).trans (reg_codes16 m c)

set_option backward.isDefEq.respectTransparency.types false in
theorem exit_d (c : Dev nD) : exitV m c (Proc.devRef .tc main_v28_2) = extf .f32 (bD m c) bitsLt_f16_f32 :=
  (Pipeline.withArrays_arr spec0 arr_inj c (V0 m c) (fun w => (dats m 0 c).arrAt w (cfgs 0).N) 4).trans (reg_d m c)

theorem exit_scale (c : Dev nD) : exitV m c (Proc.devRef .tc main_v21) = refScale m c :=
  (exit_of_ne m c main_v21 (by decide)).trans (V_v21 m c)

theorem exit_arg2 (c : Dev nD) : exitV m c (Proc.devRef .tc main_arg2) = bH m c :=
  (exit_of_ne m c main_arg2 (by decide)).trans (V_main_arg2 m c)
theorem exit_arg3 (c : Dev nD) : exitV m c (Proc.devRef .tc main_arg3) = bQ m c :=
  (exit_of_ne m c main_arg3 (by decide)).trans (V_main_arg3 m c)
theorem exit_arg4 (c : Dev nD) : exitV m c (Proc.devRef .tc main_arg4) = bS m c :=
  (exit_of_ne m c main_arg4 (by decide)).trans (V_main_arg4 m c)

theorem tail_eq (c : Dev nD) (b : Ref sig .tc) : Pipeline.afterTail₀ cfgs (dats m) 0 (V0 m) [hostOps1] c b = StableHlo.after hostOps1 (exitV m c) (Proc.devRef .tc b) := by
  unfold Pipeline.afterTail₀ exitV
  rw [List.flatten_cons, List.flatten_nil, List.append_nil]

theorem tail_y (c : Dev nD) : Pipeline.afterTail₀ cfgs (dats m) 0 (V0 m) [hostOps1] c main_v160 = tY (refXq m c) (refW m c) := by
  rw [tail_eq, suffix_y, exit_codes16, exit_d, exit_scale, exit_arg2, exit_arg3, exit_arg4]
  rfl

theorem tail_scale (c : Dev nD) : Pipeline.afterTail₀ cfgs (dats m) 0 (V0 m) [hostOps1] c main_v21 = refScale m c := by
  rw [tail_eq, StableHlo.after_of_writes_sub (r := main_v21) hostOps1 _ hostOps1_writes (by decide +kernel)]
  exact exit_scale m c

set_option backward.isDefEq.respectTransparency.types false in
/-- The program ends with its three results at these. -/
theorem ref_run : θ_run defs (onTc (τ := τ) (main (F := Ideal))) ⟨m, fun _ => 0, ρ⟩ (fun r => ∀ c : Dev nD,
      r.2.mem ((c.tc : Thread nD τ).loc main_v160) = tY (refXq m c) (refW m c)
      ∧ r.2.mem ((c.tc : Thread nD τ).loc main_v28_0) = (fptosi 8 (refCode m c) : IVec S2x4096x3584 8)
      ∧ r.2.mem ((c.tc : Thread nD τ).loc main_v21) = refScale m c) :=
  θ_run_mono (run_main m ρ) fun r h c =>
    ⟨((h c).2 main_v160 (Pipeline.mem_restRefs_of main_v160 (by decide) (by decide))).trans (tail_y m c),
      ((h c).1 2).trans (reg_codes m c),
      ((h c).2 main_v21 (Pipeline.mem_restRefs_of main_v21 (by decide) (by decide))).trans (tail_scale m c)⟩

end Cert.Q3k.Ref

end
-- ==== Proof.Q3k.RefValue.lean ====
/- The reference's three results at an index, in the words of the two programs' common specification. -/
module

public import proofs.«01_k».proof.Proof.Q3k.RefRun
public import proofs.«01_k».proof.Proof.Q3k.KRun

@[expose] public section

set_option maxRecDepth 16384

noncomputable section

namespace Cert.Q3k.Ref

open Idealize.ShloMosaic Idealize.ShloMosaic.TcCoe Idealize.SL Idealize Cert.ReferenceIdeal Cert.ReferenceIdeal.Gen

/-- 127 and -127. -/
theorem c127 : Ideal.ofBits .f32 1123942400#32 = ((127 : ℝ) : EReal) := by
  simp [Ideal.ofBits, Ideal.ieee, -EReal.coe_mul]; norm_num
theorem cm127 : Ideal.ofBits .f32 3271426048#32 = ((-127 : ℝ) : EReal) := by
  simp [Ideal.ofBits, Ideal.ieee, -EReal.coe_mul, -EReal.coe_neg]; norm_num

/-- A code is an integer of magnitude at most 127. -/
theorem code_int (x g : Fin 3584 → EReal) (c : Fin 3584) : ∃ k : ℤ, -127 ≤ k ∧ k ≤ 127 ∧ code x g c = ((k : ℝ) : EReal) := by
  unfold code
  rw [c127, cm127]
  generalize Ideal.div (normed x g c) _ = z
  induction z using EReal.rec with
  | bot => exact ⟨-127, by norm_num, by norm_num, by
      show min ((127 : ℝ) : EReal) (max ((-127 : ℝ) : EReal) ⊥) = _
      rw [max_bot_right, min_eq_right (by exact_mod_cast (by norm_num : (-127 : ℝ) ≤ 127))]; norm_num⟩
  | top => exact ⟨127, by norm_num, by norm_num, by
      show min ((127 : ℝ) : EReal) (max ((-127 : ℝ) : EReal) ⊤) = _
      rw [max_top_right, min_eq_left le_top]; norm_num⟩
  | coe r =>
    refine ⟨min 127 (max (-127) (Ideal.roundHalfEven r)), by omega, by omega, ?_⟩
    show min ((127 : ℝ) : EReal) (max ((-127 : ℝ) : EReal) (((Ideal.roundHalfEven r : ℤ) : ℝ) : EReal)) = _
    rw [← EReal.coe_strictMono.monotone.map_max, ← EReal.coe_strictMono.monotone.map_min]
    push_cast
    rfl

/-- Converting a code to an integer and back gives it again. -/
theorem code_back (x g : Fin 3584 → EReal) (c : Fin 3584) :
    (((FloatOps.fptosi (F := Ideal) (φ := .f32) 8 (code x g c)).toInt : ℝ) : EReal) = code x g c := by
  obtain ⟨k, h1, h2, e⟩ := code_int x g c
  rw [e]
  have h : FloatOps.fptosi (F := Ideal) (φ := .f32) 8 ((k : ℝ) : EReal) = BitVec.ofInt 8 k := by
    show BitVec.ofInt 8 (max (-(2 ^ (8 - 1) : ℕ)) (min ((2 ^ (8 - 1) : ℕ) - 1) (if 0 ≤ (k : ℝ) then ⌊(k : ℝ)⌋ else ⌈(k : ℝ)⌉))) = _
    rw [Int.floor_intCast, Int.ceil_intCast, ite_self]
    congr 1
    norm_num
    omega
  rw [h, BitVec.toInt_ofInt_eq_self (by decide) (by norm_num; omega) (by norm_num; omega)]

theorem host_shr (a s : BitVec 32) (h : s.toNat < 32) : IntOp.shrsi .host a s = IntOp.shrsi .vector a s := by
  unfold IntOp.shrsi; rw [if_pos h, if_pos h]
theorem host_shl (a s : BitVec 32) (h : s.toNat < 32) : IntOp.shli .host a s = IntOp.shli .vector a s := by
  unfold IntOp.shli; rw [if_pos h, if_pos h]

/-- A bit field of a byte widened to a word. -/
theorem field (a : BitVec 8) (s k : ℕ) (hs : s < 8) (hk : k ≤ 8) :
    IntOp.andi (IntOp.shrsi .host (a.setWidth 32) (BitVec.ofNat 32 s)) (BitVec.ofNat 32 (2 ^ k - 1)) = BitVec.ofNat 32 (a.toNat / 2 ^ s % 2 ^ k) := by
  have es : (BitVec.ofNat 32 s).toNat = s := by rw [BitVec.toNat_ofNat]; omega
  have h : ∀ (a : BitVec 8) (s : Fin 8) (k : Fin 9), ((a.setWidth 32).sshiftRight s.val) &&& (BitVec.ofNat 32 (2 ^ k.val - 1)) = BitVec.ofNat 32 (a.toNat / 2 ^ s.val % 2 ^ k.val) := by
    decide +kernel
  unfold IntOp.andi IntOp.shrsi
  rw [if_pos (by rw [es]; omega), BitVec.sshiftRight', es]
  exact h a ⟨s, hs⟩ ⟨k, by omega⟩

/-- The quant's word as an integer. -/
theorem quant_int (q h : BitVec 8) (j : Fin 4) (i : Fin 2) :
    (IntOp.subi (IntOp.addi (IntOp.andi (IntOp.shrsi .host (q.setWidth 32) (IntOp.muli 2#32 (BitVec.ofNat 32 j.val))) 3#32)
      (IntOp.muli 4#32 (IntOp.andi (IntOp.shrsi .host (h.setWidth 32) (IntOp.addi (IntOp.muli 4#32 (BitVec.ofNat 32 i.val)) (BitVec.ofNat 32 j.val))) 1#32))) 4#32).toInt
    = qInt q h j.val (4 * i.val + j.val) := by
  have e1 : IntOp.muli 2#32 (BitVec.ofNat 32 j.val) = BitVec.ofNat 32 (2 * j.val) := by revert j; decide
  have e2 : IntOp.addi (IntOp.muli 4#32 (BitVec.ofNat 32 i.val)) (BitVec.ofNat 32 j.val) = BitVec.ofNat 32 (4 * i.val + j.val) := by revert i j; decide
  have f1 := field q (2 * j.val) 2 (by omega) (by omega)
  have f2 := field h (4 * i.val + j.val) 1 (by omega) (by omega)
  rw [e1, e2, show (3#32 : BitVec 32) = BitVec.ofNat 32 (2 ^ 2 - 1) from rfl, show (1#32 : BitVec 32) = BitVec.ofNat 32 (2 ^ 1 - 1) from rfl, f1, f2]
  unfold qInt
  have h1 : q.toNat / 2 ^ (2 * j.val) % 2 ^ 2 < 4 := Nat.mod_lt _ (by decide)
  have h2 : h.toNat / 2 ^ (4 * i.val + j.val) % 2 ^ 1 < 2 := Nat.mod_lt _ (by decide)
  rw [show (4 : ℕ) = 2 ^ 2 from rfl, show (2 : ℕ) = 2 ^ 1 from rfl] at *
  generalize q.toNat / _ % _ = a at *
  generalize h.toNat / _ % _ = b at *
  have : ∀ (a : Fin 4) (b : Fin 2), (IntOp.subi (IntOp.addi (BitVec.ofNat 32 a.val) (IntOp.muli 4#32 (BitVec.ofNat 32 b.val))) 4#32).toInt = ((a.val + 4 * b.val : ℕ) : ℤ) - 4 := by decide
  exact this ⟨a, h1⟩ ⟨b, h2⟩

/-- The 6-bit scale's word. -/
theorem scale_word (a b : BitVec 8) (i : Fin 16) :
    IntOp.subi (IntOp.ori (IntOp.andi (IntOp.shrsi .host (a.setWidth 32) (IntOp.muli 4#32 (BitVec.ofNat 32 (i.val / 8)))) 15#32)
      (IntOp.shli .host (IntOp.andi (IntOp.shrsi .host (b.setWidth 32) (IntOp.muli 2#32 (BitVec.ofNat 32 (i.val / 4)))) 3#32) 4#32)) 32#32
    = scWord a b (BitVec.ofNat 32 (4 * (i.val / 8))) (BitVec.ofNat 32 (2 * (i.val / 4))) := by
  have e1 : IntOp.muli 4#32 (BitVec.ofNat 32 (i.val / 8)) = BitVec.ofNat 32 (4 * (i.val / 8)) := by revert i; decide
  have e2 : IntOp.muli 2#32 (BitVec.ofNat 32 (i.val / 4)) = BitVec.ofNat 32 (2 * (i.val / 4)) := by revert i; decide
  have s1 : (BitVec.ofNat 32 (4 * (i.val / 8))).toNat < 32 := by revert i; decide
  have s2 : (BitVec.ofNat 32 (2 * (i.val / 4))).toNat < 32 := by revert i; decide
  rw [e1, e2, host_shr _ _ s1, host_shr _ _ s2, host_shl _ _ (by decide)]
  rfl

/-- A sum over parts, lanes and blocks is a sum over all inputs. -/
theorem sum_split (f : Fin 3584 → EReal) : ∑ K, f K = ∑ h : Fin 2, ∑ j : Fin 4, ∑ l : Fin 32, ∑ k : Fin 14, f ⟨k.val * 256 + (h.val * 128 + j.val * 32 + l.val), by omega⟩ := by
  let e : Fin 2 × Fin 4 × Fin 32 × Fin 14 ≃ Fin 3584 :=
    { toFun := fun p => ⟨p.2.2.2.val * 256 + (p.1.val * 128 + p.2.1.val * 32 + p.2.2.1.val), by omega⟩
      invFun := fun K => (⟨K.val / 128 % 2, by omega⟩, ⟨K.val / 32 % 4, by omega⟩, ⟨K.val % 32, by omega⟩, ⟨K.val / 256, by omega⟩)
      left_inv := fun p => by
        obtain ⟨h, j, l, k⟩ := p
        simp only [Prod.mk.injEq]
        refine ⟨Fin.ext ?_, Fin.ext ?_, Fin.ext ?_, Fin.ext ?_⟩ <;> dsimp only <;> omega
      right_inv := fun K => Fin.ext (by dsimp only; omega) }
  rw [← Equiv.sum_comp e f]
  simp only [Fintype.sum_prod_type]
  rfl

variable (m : (ℓ : Loc nD τ sig) → Buf (Elt Ideal) ℓ) (c : Dev nD)

theorem ref_scales (b : Fin 2) (s : Fin 4096) (n : Fin 14) : refScale m c (ix3 b s n) = scl (xRow (bX m c) b s) (gRow (bG m c)) n := scale_at m c b s n

theorem ref_code (b : Fin 2) (s : Fin 4096) (k : Fin 3584) : refCode m c (ix3 b s k) = code (xRow (bX m c) b s) (gRow (bG m c)) k := code_at m c b s k

theorem ref_codes (b : Fin 2) (s : Fin 4096) (k : Fin 3584) :
    (fptosi 8 (refCode m c) : IVec S2x4096x3584 8) (ix3 b s k) = FloatOps.fptosi (F := Ideal) (φ := .f32) 8 (code (xRow (bX m c) b s) (gRow (bG m c)) k) :=
  congrArg (FloatOps.fptosi (F := Ideal) (φ := .f32) 8) (ref_code m c b s k)

theorem ref_code16 (b : Fin 2) (s : Fin 4096) (k : Fin 3584) : refCode16 m c (ix3 b s k) = code (xRow (bX m c) b s) (gRow (bG m c)) k := by
  rw [← code_back, ← ref_codes]
  rfl

theorem ref_xq (b : Fin 2) (s : Fin 4096) (n : Fin 14) (h : Fin 2) (j : Fin 4) (l : Fin 32) :
    refXq m c (ix6 b s n h j l) = xqv (xRow (bX m c) b s) (gRow (bG m c)) ⟨n.val * 256 + (h.val * 128 + j.val * 32 + l.val), by omega⟩ := by
  unfold refXq xqv
  rw [tXq_at, ref_code16, ref_scales]
  have e : (⟨(n.val * 256 + (h.val * 128 + j.val * 32 + l.val)) / 256, by omega⟩ : Fin 14) = n := Fin.ext (by dsimp only; omega)
  rw [e]

theorem ref_w (n : Fin 18944) (b : Fin 14) (h : Fin 2) (j : Fin 4) (l : Fin 32) :
    refW m c (ix5 n b h j l) = wOut (bH m c) (bQ m c) (bS m c) (bD m c) n ⟨b.val * 256 + (h.val * 128 + j.val * 32 + l.val), by omega⟩ := by
  unfold refW wOut qOut gOut
  rw [tW_at, tQ_at, tLow_at, tHigh_at, quant_int, tGain_at, tLo_at, tHi_at, scale_word]
  have e1 : (⟨(b.val * 256 + (h.val * 128 + j.val * 32 + l.val)) / 256, by omega⟩ : Fin 14) = b := Fin.ext (by dsimp only; omega)
  have e2 : (⟨(b.val * 256 + (h.val * 128 + j.val * 32 + l.val)) / 16 % 16, by omega⟩ : Fin 16) = ⟨h.val * 8 + j.val * 2 + l.val / 16, by omega⟩ := Fin.ext (by dsimp only; omega)
  have e3 : (⟨32 * ((b.val * 256 + (h.val * 128 + j.val * 32 + l.val)) / 128 % 2) + (b.val * 256 + (h.val * 128 + j.val * 32 + l.val)) % 32, by omega⟩ : Fin 64) = ⟨h.val * 32 + l.val, by omega⟩ := Fin.ext (by dsimp only; omega)
  have e4 : (⟨(b.val * 256 + (h.val * 128 + j.val * 32 + l.val)) % 32, by omega⟩ : Fin 32) = l := Fin.ext (by dsimp only; omega)
  have e5 : (b.val * 256 + (h.val * 128 + j.val * 32 + l.val)) / 32 % 4 = j.val := by omega
  have e6 : (b.val * 256 + (h.val * 128 + j.val * 32 + l.val)) / 128 % 2 = h.val := by omega
  dsimp only
  rw [e1, e2, e3, e4, e5, e6]
  rfl

/-- The reference's product. -/
theorem ref_y (b : Fin 2) (s : Fin 4096) (n : Fin 18944) :
    tY (refXq m c) (refW m c) (ix3 b s n) = yOut (bX m c) (bG m c) (bH m c) (bQ m c) (bS m c) (bD m c) b s n := by
  rw [tY_at]
  unfold yOut
  rw [sum_split]
  refine Finset.sum_congr rfl fun h _ => Finset.sum_congr rfl fun j _ => Finset.sum_congr rfl fun l _ => Finset.sum_congr rfl fun k _ => ?_
  rw [ref_xq, ref_w]

end Cert.Q3k.Ref

end
-- ==== Proof.Q3k.Alg.lean ====
/- The value claim: the idealized kernel and the reference end with the same three results. -/
module

public import proofs.«01_k».proof.Defs
public import proofs.«01_k».proof.Proof.Q3k.KEnd
public import proofs.«01_k».proof.Proof.Q3k.RefValue
public import proofs.«01_k».proof.Proof.Gen.KernelIdeal.Frame
public import proofs.«01_k».proof.Proof.Gen.ReferenceIdeal.Frame

@[expose] public section

set_option maxRecDepth 16384

noncomputable section

namespace Cert.Q3k

open Idealize Idealize.ShloMosaic Idealize.ShloMosaic.TcCoe Idealize.ShloMosaic.Tactic
open Cert.KernelIdeal.Gen (W5)

section Agree

variable {m : (ℓ : Loc KernelIdeal.nD KernelIdeal.τ KernelIdeal.sig) → Buf (Elt Ideal) ℓ} (ρ : Dev KernelIdeal.nD → PrngReg)
  {m' : (ℓ : Loc ReferenceIdeal.nD ReferenceIdeal.τ ReferenceIdeal.sig) → Buf (Elt Ideal) ℓ} {c : Dev KernelIdeal.nD}
  (hX : Ref.bX m' c = aX m c) (hG : Ref.bG m' c = aG m c)

include hX hG

set_option backward.isDefEq.respectTransparency.types false in
/-- Equal inputs and gains give equal codes. -/
theorem codes_agree :
    (fptosi (F := Ideal) 8 (Ref.refCode m' c) : IVec ReferenceIdeal.S2x4096x3584 8) = W5 m ρ c (Proc.devRef .tc KernelIdeal.main_v9) := by
  funext i
  obtain ⟨b, s, k, rfl⟩ : ∃ b s k, i = ix3 b s k := ⟨_, _, _, eq_ix3 i⟩
  rw [Ref.ref_codes, hX, hG]
  exact (kernel_codes m ρ c b s k).symm

set_option backward.isDefEq.respectTransparency.types false in
/-- Equal inputs and gains give equal scales. -/
theorem scales_agree : Ref.refScale m' c = W5 m ρ c (Proc.devRef .tc KernelIdeal.main_v11) := by
  funext i
  obtain ⟨b, s, k, rfl⟩ : ∃ b s k, i = ix3 b s k := ⟨_, _, _, eq_ix3 i⟩
  rw [Ref.ref_scales, hX, hG]
  exact (kernel_scales m ρ c b s k).symm

set_option backward.isDefEq.respectTransparency.types false in
/-- Equal arguments give equal products. -/
theorem y_agree (hH : Ref.bH m' c = aH m c) (hQ : Ref.bQ m' c = aQ m c) (hS : Ref.bS m' c = aS m c) (hD : Ref.bD m' c = aD m c) :
    Ref.tY (Ref.refXq m' c) (Ref.refW m' c) = W5 m ρ c (Proc.devRef .tc KernelIdeal.main_v8) := by
  funext i
  obtain ⟨b, s, n, rfl⟩ : ∃ b s n, i = ix3 b s n := ⟨_, _, _, eq_ix3 i⟩
  rw [Ref.ref_y, hX, hG, hH, hQ, hS, hD]
  exact (kernel_y m ρ c b s n).symm

end Agree

set_option backward.isDefEq.respectTransparency.types false in
/-- The idealized kernel and the reference, from equal arguments, end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => W5 m g c (Proc.devRef .tc KernelIdeal.main_v8), fun c => W5 m g c (Proc.devRef .tc KernelIdeal.main_v9),
    fun c => W5 m g c (Proc.devRef .tc KernelIdeal.main_v11), ?_, ?_⟩
  · refine θ_run_mono (θ_run_and (kernel_run m g) (Cert.KernelIdeal.Gen.frame m g)) fun r h c => ?_
    exact ⟨(h.1 c).1, (h.1 c).2.1, (h.1 c).2.2, h.2.1 c⟩
  · refine θ_run_mono (θ_run_and (Ref.ref_run m' g') (Cert.ReferenceIdeal.Gen.frame m' g')) fun r h c => ?_
    obtain ⟨hX, hG, hH, hQ, hS, hD⟩ := hagree c
    exact ⟨(h.1 c).1.trans (y_agree g hX hG hH hQ hS hD), (h.1 c).2.1.trans (codes_agree g hX hG),
      (h.1 c).2.2.trans (scales_agree g hX hG), h.2.1 c⟩

end Cert.Q3k

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import Idealize.ShloMosaic.Lib.Bf16PairInverse
public import proofs.«01_k».proof.Proof.Q3k.Alg

@[expose] public section

noncomputable section

namespace Cert.Proof

open Idealize.ShloMosaic Idealize.ShloMosaic.IdealRules.bf16_pair

open Cert.KernelIdeal in
/-- The idealization's rewrites as their distinct statements, in order of first appearance. -/
theorem preserves : Cert.preserves_Kernel_KernelIdeal :=
  ⟨bufferStatement S4096x2x3584 S4096x1x3584, bufferStatement S128x2x3584 S128x1x3584,
    statement S32x256 S16x256, statement S16x2x256 S16x1x256, bufferStatement S1024x2x3584 S1024x1x3584,
    bufferStatement S1x1792x2x512 S1x1792x1x512, bufferStatement S16x16x2x512 S16x16x1x512,
    packStatement S14x512, statement S1x14x2x512 S1x14x1x512, statement S1x1x2x512 S1x1x1x512,
    statement S16x512 S8x512, statement S1x8x2x512 S1x8x1x512, statement S1x1792x2x512 S1x1792x1x512,
    statement S3584x512 S1792x512, statement S256x2x3584 S256x1x3584, statement S512x3584 S256x3584⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, preserves, Cert.Q3k.algebraic⟩

end Cert.Proof

end
